-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v66_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v48_13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x1024 : Shape := ⟨3, ![8, 1024, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S512x1 : Shape := ⟨2, ![512, 1]⟩
abbrev S1 : Shape := ⟨1, ![1]⟩
abbrev S1552x1024 : Shape := ⟨2, ![1552, 1024]⟩
abbrev S1024x16 : Shape := ⟨2, ![1024, 16]⟩
abbrev S16 : Shape := ⟨1, ![16]⟩
abbrev S1536x1024 : Shape := ⟨2, ![1536, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v49 : IVec S_ 1) (main_v50 : FVec F S1 .f32) : IVec S_ 1 :=
  let main_cst_19 : FVec F S_ .f32 := constant S_ .f32 0x7F800000#32
  let main_v51 : FVec F S1 .f32 := broadcastInDim S1 ![] bcast_S_S1 main_cst_19
  let main_v52 : IVec S1 1 := cmpf .olt main_v50 main_v51
  let main_c_20 : IVec S_ 1 := constantI S_ 1 1#1
  let main_v53 : IVec S_ 1 := (fun x v => Host.reduce IntOp.andi x v reducesTo_S1_S_d0 h_S_) main_v52 main_c_20
  let main_v54 : IVec S_ 1 := andi main_v49 main_v53
  main_v54

def fn_part2 {F : FTy → Type} [FloatOps F] (main_arg7 : FVec F S1024 .f32) (main_arg8 : FVec F S1024x512 .f32) (main_arg9 : FVec F S512 .f32) (main_arg11 : FVec F S1 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S1024 .f32 := Host.absf main_arg7
  let main_cst_13 : FVec F S_ .f32 := constant S_ .f32 0x7F800000#32
  let main_v36 : FVec F S1024 .f32 := broadcastInDim S1024 ![] bcast_S_S1024 main_cst_13
  let main_v37 : IVec S1024 1 := cmpf .olt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v34 main_v38
  let main_v40 : FVec F S1024x512 .f32 := Host.absf main_arg8
  let main_cst_15 : FVec F S_ .f32 := constant S_ .f32 0x7F800000#32
  let main_v41 : FVec F S1024x512 .f32 := broadcastInDim S1024x512 ![] bcast_S_S1024x512 main_cst_15
  let main_v42 : IVec S1024x512 1 := cmpf .olt main_v40 main_v41
  let main_c_16 : IVec S_ 1 := constantI S_ 1 1#1
  let main_v43 : IVec S_ 1 := (fun x v => Host.reduce IntOp.andi x v reducesTo_S1024x512_S_d0_1 h_S_) main_v42 main_c_16
  let main_v44 : IVec S_ 1 := andi main_v39 main_v43
  let main_v45 : FVec F S512 .f32 := Host.absf main_arg9
  let main_cst_17 : FVec F S_ .f32 := constant S_ .f32 0x7F800000#32
  let main_v46 : FVec F S512 .f32 := broadcastInDim S512 ![] bcast_S_S512 main_cst_17
  let main_v47 : IVec S512 1 := cmpf .olt main_v45 main_v46
  let main_c_18 : IVec S_ 1 := constantI S_ 1 1#1
  let main_v48 : IVec S_ 1 := (fun x v => Host.reduce IntOp.andi x v reducesTo_S512_S_d0 h_S_) main_v47 main_c_18
  let main_v49 : IVec S_ 1 := andi main_v44 main_v48
  let main_v50 : FVec F S1 .f32 := Host.absf main_arg11
  fn_part3 (F := F) main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x512 .f32) (main_arg9 : FVec F S512 .f32) (main_arg11 : FVec F S1 .f32) (main_v14 : IVec S_ 1) (main_v15 : FVec F S512 .f32) (main_cst_5 : FVec F S_ .f32) : IVec S_ 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S1024x1024 .f32 := Host.absf main_arg4
  let main_cst_7 : FVec F S_ .f32 := constant S_ .f32 0x7F800000#32
  let main_v21 : FVec F S1024x1024 .f32 := broadcastInDim S1024x1024 ![] bcast_S_S1024x1024 main_cst_7
  let main_v22 : IVec S1024x1024 1 := cmpf .olt main_v20 main_v21
  let main_c_8 : IVec S_ 1 := constantI S_ 1 1#1
  let main_v23 : IVec S_ 1 := (fun x v => Host.reduce IntOp.andi x v reducesTo_S1024x1024_S_d0_1 h_S_) main_v22 main_c_8
  let main_v24 : IVec S_ 1 := andi main_v19 main_v23
  let main_v25 : FVec F S1024 .f32 := Host.absf main_arg5
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_arg8 main_arg9 main_arg11 main_v29 main_v32 main_c_12

def fn {F : FTy → Type} [FloatOps F] (main_arg0 : FVec F S8x1024x1024 .f32) (main_arg1 : FVec F S1024x512 .f32) (main_arg2 : FVec F S1024x512 .f32) (main_arg3 : FVec F S512 .f32) (main_arg4 : FVec F S1024x1024 .f32) (main_arg5 : FVec F S1024 .f32) (main_arg6 : FVec F S1024x1024 .f32) (main_arg7 : FVec F S1024 .f32) (main_arg8 : FVec F S1024x512 .f32) (main_arg9 : FVec F S512 .f32) (main_arg10 : FVec F S512x1 .f32) (main_arg11 : FVec F S1 .f32) (main_arg12 : FVec F S1552x1024 .f32) (main_arg13 : FVec F S1024 .f32) (main_arg14 : FVec F S1024x16 .f32) (main_arg15 : FVec F S16 .f32) (main_arg16 : FVec F S1536x1024 .f32) (main_arg17 : FVec F S1024 .f32) (main_arg18 : FVec F S1024 .f32) (main_arg19 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_c_0 : IVec S_ 1 := constantI S_ 1 1#1
  let main_v4 : IVec S_ 1 := andi main_c_0 main_v3
  let main_v5 : FVec F S1024x512 .f32 := Host.absf main_arg1
  let main_cst_1 : FVec F S_ .f32 := constant S_ .f32 0x7F800000#32
  let main_v6 : FVec F S1024x512 .f32 := broadcastInDim S1024x512 ![] bcast_S_S1024x512 main_cst_1
  let main_v7 : IVec S1024x512 1 := cmpf .olt main_v5 main_v6
  let main_c_2 : IVec S_ 1 := constantI S_ 1 1#1
  let main_v8 : IVec S_ 1 := (fun x v => Host.reduce IntOp.andi x v reducesTo_S1024x512_S_d0_1 h_S_) main_v7 main_c_2
  let main_v9 : IVec S_ 1 := andi main_v4 main_v8
  let main_v10 : FVec F S1024x512 .f32 := Host.absf main_arg2
  let main_cst_3 : FVec F S_ .f32 := constant S_ .f32 0x7F800000#32
  let main_v11 : FVec F S1024x512 .f32 := broadcastInDim S1024x512 ![] bcast_S_S1024x512 main_cst_3
  let main_v12 : IVec S1024x512 1 := cmpf .olt main_v10 main_v11
  let main_c_4 : IVec S_ 1 := constantI S_ 1 1#1
  let main_v13 : IVec S_ 1 := (fun x v => Host.reduce IntOp.andi x v reducesTo_S1024x512_S_d0_1 h_S_) main_v12 main_c_4
  let main_v14 : IVec S_ 1 := andi main_v9 main_v13
  let main_v15 : FVec F S512 .f32 := Host.absf main_arg3
  let main_cst_5 : FVec F S_ .f32 := constant S_ .f32 0x7F800000#32
  fn_part1 (F := F) main_arg4 main_arg5 main_arg6 main_arg7 main_arg8 main_arg9 main_arg11 main_v14 main_v15 main_cst_5
-- ==== Kernel.lean ====
abbrev S8x1024x1024 : Shape := ⟨3, ![8, 1024, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S512x1 : Shape := ⟨2, ![512, 1]⟩
abbrev S1 : Shape := ⟨1, ![1]⟩
abbrev S1552x1024 : Shape := ⟨2, ![1552, 1024]⟩
abbrev S1024x16 : Shape := ⟨2, ![1024, 16]⟩
abbrev S16 : Shape := ⟨1, ![16]⟩
abbrev S1536x1024 : Shape := ⟨2, ![1536, 1024]⟩
abbrev S512x384 : Shape := ⟨2, ![512, 384]⟩
abbrev S_ : Shape := ⟨0, ![]⟩
abbrev S384x512 : Shape := ⟨2, ![384, 512]⟩
abbrev S1024x8x1024 : Shape := ⟨3, ![1024, 8, 1024]⟩
abbrev S1x512 : Shape := ⟨2, ![1, 512]⟩
abbrev S1x1024 : Shape := ⟨2, ![1, 1024]⟩
abbrev S512x1024 : Shape := ⟨2, ![512, 1024]⟩
abbrev S1024x8x512 : Shape := ⟨3, ![1024, 8, 512]⟩
abbrev S1024x8x384 : Shape := ⟨3, ![1024, 8, 384]⟩
abbrev S32x8x1024 : Shape := ⟨3, ![32, 8, 1024]⟩
abbrev S32x512 : Shape := ⟨2, ![32, 512]⟩
abbrev S32x8x512 : Shape := ⟨3, ![32, 8, 512]⟩
abbrev S32x8x384 : Shape := ⟨3, ![32, 8, 384]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x384 : Shape := ⟨2, ![256, 384]⟩
abbrev S32x384 : Shape := ⟨2, ![32, 384]⟩
abbrev S32x1x384 : Shape := ⟨3, ![32, 1, 384]⟩
abbrev S16x1024 : Shape := ⟨2, ![16, 1024]⟩
abbrev S1x16 : Shape := ⟨2, ![1, 16]⟩
abbrev S8x16x512 : Shape := ⟨3, ![8, 16, 512]⟩
abbrev S16x8x1024 : Shape := ⟨3, ![16, 8, 1024]⟩
abbrev S16x8x512 : Shape := ⟨3, ![16, 8, 512]⟩
abbrev S16x8x384 : Shape := ⟨3, ![16, 8, 384]⟩
abbrev S1x1x512 : Shape := ⟨3, ![1, 1, 512]⟩
abbrev S1x8x384 : Shape := ⟨3, ![1, 8, 384]⟩
abbrev S8x384 : Shape := ⟨2, ![8, 384]⟩
abbrev S128x512 : Shape := ⟨2, ![128, 512]⟩
abbrev S128x384 : Shape := ⟨2, ![128, 384]⟩
abbrev S8x16x384 : Shape := ⟨3, ![8, 16, 384]⟩
abbrev S8x1x384 : Shape := ⟨3, ![8, 1, 384]⟩
abbrev S8x16 : Shape := ⟨2, ![8, 16]⟩
abbrev S8 : Shape := ⟨1, ![8]⟩
abbrev S8x1 : Shape := ⟨2, ![8, 1]⟩
abbrev S8x16x1 : Shape := ⟨3, ![8, 16, 1]⟩
abbrev S8x512 : Shape := ⟨2, ![8, 512]⟩
abbrev S1x8x1024 : Shape := ⟨3, ![1, 8, 1024]⟩
abbrev S8x1024 : Shape := ⟨2, ![8, 1024]⟩
abbrev S1x8x512 : Shape := ⟨3, ![1, 8, 512]⟩
abbrev S8x1x512 : Shape := ⟨3, ![8, 1, 512]⟩

abbrev nBuf : Space → Nat
  | .hbm => 107
  | .vmem => 58
  | .smem => 0
  | _ => 0

abbrev bufTy : (tb : Table) → Fin (tcTables nBuf tb) → BufTy
  | .hbm, ⟨0, _⟩ => ⟨S8x1024x1024, .f32⟩
  | .hbm, ⟨1, _⟩ => ⟨S1024x512, .f32⟩
  | .hbm, ⟨2, _⟩ => ⟨S1024x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S1552x1024, .f32⟩
  | .hbm, ⟨13, _⟩ => ⟨S1024, .f32⟩
  | .hbm, ⟨14, _⟩ => ⟨S1024x16, .f32⟩
  | .hbm, ⟨15, _⟩ => ⟨S16, .f32⟩
  | .hbm, ⟨16, _⟩ => ⟨S1536x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S512x384, .i32⟩
  | .hbm, ⟨21, _⟩ => ⟨S512x384, .f32⟩
  | .hbm, ⟨22, _⟩ => ⟨S512x384, .i32⟩
  | .hbm, ⟨23, _⟩ => ⟨S512x384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512x384, .f32⟩
  | .hbm, ⟨29, _⟩ => ⟨S_, .f32⟩
  | .hbm, ⟨30, _⟩ => ⟨S512x384, .f32⟩
  | .hbm, ⟨31, _⟩ => ⟨S512x384, .f32⟩
  | .hbm, ⟨32, _⟩ => ⟨S512x384, .f32⟩
  | .hbm, ⟨33, _⟩ => ⟨S512x384, .f32⟩
  | .hbm, ⟨34, _⟩ => ⟨S_, .f32⟩
  | .hbm, ⟨35, _⟩ => ⟨S512x384, .f32⟩
  | .hbm, ⟨36, _⟩ => ⟨S_, .f32⟩
  | .hbm, ⟨37, _⟩ => ⟨S512x384, .f32⟩
  | .hbm, ⟨38, _⟩ => ⟨S512x384, .i1⟩
  | .hbm, ⟨39, _⟩ => ⟨S512x384, .f32⟩
  | .hbm, ⟨40, _⟩ => ⟨S512x384, .f32⟩
  | .hbm, ⟨41, _⟩ => ⟨S512x384, .f32⟩
  | .hbm, ⟨42, _⟩ => ⟨S512x384, .f32⟩
  | .hbm, ⟨43, _⟩ => ⟨S384x512, .i32⟩
  | .hbm, ⟨44, _⟩ => ⟨S384x512, .f32⟩
  | .hbm, ⟨45, _⟩ => ⟨S384x512, .i32⟩
  | .hbm, ⟨46, _⟩ => ⟨S384x512, .f32⟩
  | .hbm, ⟨47, _⟩ => ⟨S384x512, .f32⟩
  | .hbm, ⟨48, _⟩ => ⟨S_, .f32⟩
  | .hbm, ⟨49, _⟩ => ⟨S384x512, .f32⟩
  | .hbm, ⟨50, _⟩ => ⟨S384x512, .f32⟩
  | .hbm, ⟨51, _⟩ => ⟨S384x512, .f32⟩
  | .hbm, ⟨52, _⟩ => ⟨S384x512, .f32⟩
  | .hbm, ⟨53, _⟩ => ⟨S_, .f32⟩
  | .hbm, ⟨54, _⟩ => ⟨S384x512, .f32⟩
  | .hbm, ⟨55, _⟩ => ⟨S_, .f32⟩
  | .hbm, ⟨56, _⟩ => ⟨S384x512, .f32⟩
  | .hbm, ⟨57, _⟩ => ⟨S384x512, .i1⟩
  | .hbm, ⟨58, _⟩ => ⟨S_, .f32⟩
  | .hbm, ⟨59, _⟩ => ⟨S384x512, .f32⟩
  | .hbm, ⟨60, _⟩ => ⟨S384x512, .i1⟩
  | .hbm, ⟨61, _⟩ => ⟨S384x512, .i1⟩
  | .hbm, ⟨62, _⟩ => ⟨S_, .f32⟩
  | .hbm, ⟨63, _⟩ => ⟨S384x512, .f32⟩
  | .hbm, ⟨64, _⟩ => ⟨S384x512, .f32⟩
  | .hbm, ⟨65, _⟩ => ⟨S384x512, .f32⟩
  | .hbm, ⟨66, _⟩ => ⟨S_, .f32⟩
  | .hbm, ⟨67, _⟩ => ⟨S384x512, .f32⟩
  | .hbm, ⟨68, _⟩ => ⟨S384x512, .i1⟩
  | .hbm, ⟨69, _⟩ => ⟨S_, .f32⟩
  | .hbm, ⟨70, _⟩ => ⟨S384x512, .f32⟩
  | .hbm, ⟨71, _⟩ => ⟨S384x512, .f32⟩
  | .hbm, ⟨72, _⟩ => ⟨S384x512, .f32⟩
  | .hbm, ⟨73, _⟩ => ⟨S384x512, .f32⟩
  | .hbm, ⟨74, _⟩ => ⟨S_, .f32⟩
  | .hbm, ⟨75, _⟩ => ⟨S384x512, .f32⟩
  | .hbm, ⟨76, _⟩ => ⟨S384x512, .f32⟩
  | .hbm, ⟨77, _⟩ => ⟨S384x512, .f32⟩
  | .hbm, ⟨78, _⟩ => ⟨S384x512, .f32⟩
  | .hbm, ⟨79, _⟩ => ⟨S384x512, .f32⟩
  | .hbm, ⟨80, _⟩ => ⟨S_, .f32⟩
  | .hbm, ⟨81, _⟩ => ⟨S384x512, .f32⟩
  | .hbm, ⟨82, _⟩ => ⟨S384x512, .f32⟩
  | .hbm, ⟨83, _⟩ => ⟨S1024x8x1024, .f32⟩
  | .hbm, ⟨84, _⟩ => ⟨S1x512, .f32⟩
  | .hbm, ⟨85, _⟩ => ⟨S1x1024, .f32⟩
  | .hbm, ⟨86, _⟩ => ⟨S1x1024, .f32⟩
  | .hbm, ⟨87, _⟩ => ⟨S1x512, .f32⟩
  | .hbm, ⟨88, _⟩ => ⟨S1024x1024, .f32⟩
  | .hbm, ⟨89, _⟩ => ⟨S512x1024, .f32⟩
  | .hbm, ⟨90, _⟩ => ⟨S1x1024, .f32⟩
  | .hbm, ⟨91, _⟩ => ⟨S1024x1024, .f32⟩
  | .hbm, ⟨92, _⟩ => ⟨S1x1024, .f32⟩
  | .hbm, ⟨93, _⟩ => ⟨S1024x8x1024, .f32⟩
  | .hbm, ⟨94, _⟩ => ⟨S1024x8x1024, .f32⟩
  | .hbm, ⟨95, _⟩ => ⟨S1024x8x512, .f32⟩
  | .hbm, ⟨96, _⟩ => ⟨S1024x8x384, .f32⟩
  | .hbm, ⟨97, _⟩ => ⟨S1024x8x384, .f32⟩
  | .hbm, ⟨98, _⟩ => ⟨S16x1024, .f32⟩
  | .hbm, ⟨99, _⟩ => ⟨S1x16, .f32⟩
  | .hbm, ⟨100, _⟩ => ⟨S512x1024, .f32⟩
  | .hbm, ⟨101, _⟩ => ⟨S1x512, .f32⟩
  | .hbm, ⟨102, _⟩ => ⟨S1x1024, .f32⟩
  | .hbm, ⟨103, _⟩ => ⟨S1x1024, .f32⟩
  | .hbm, ⟨104, _⟩ => ⟨S1024x8x1024, .f32⟩
  | .hbm, ⟨105, _⟩ => ⟨S8x16x512, .f32⟩
  | .hbm, ⟨106, _⟩ => ⟨S8x1024x1024, .f32⟩
  | .local _ .vmem, ⟨0, _⟩ => ⟨S32x8x1024, .f32⟩
  | .local _ .vmem, ⟨1, _⟩ => ⟨S32x8x1024, .f32⟩
  | .local _ .vmem, ⟨2, _⟩ => ⟨S32x512, .f32⟩
  | .local _ .vmem, ⟨3, _⟩ => ⟨S32x512, .f32⟩
  | .local _ .vmem, ⟨4, _⟩ => ⟨S1024x512, .f32⟩
  | .local _ .vmem, ⟨5, _⟩ => ⟨S1x512, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S1024x512, .f32⟩
  | .local _ .vmem, ⟨11, _⟩ => ⟨S1x512, .f32⟩
  | .local _ .vmem, ⟨12, _⟩ => ⟨S1024x1024, .f32⟩
  | .local _ .vmem, ⟨13, _⟩ => ⟨S512x1024, .f32⟩
  | .local _ .vmem, ⟨14, _⟩ => ⟨S1x1024, .f32⟩
  | .local _ .vmem, ⟨15, _⟩ => ⟨S1024x1024, .f32⟩
  | .local _ .vmem, ⟨16, _⟩ => ⟨S1x1024, .f32⟩
  | .local _ .vmem, ⟨17, _⟩ => ⟨S512x384, .f32⟩
  | .local _ .vmem, ⟨18, _⟩ => ⟨S512x384, .f32⟩
  | .local _ .vmem, ⟨19, _⟩ => ⟨S384x512, .f32⟩
  | .local _ .vmem, ⟨20, _⟩ => ⟨S384x512, .f32⟩
  | .local _ .vmem, ⟨21, _⟩ => ⟨S32x8x1024, .f32⟩
  | .local _ .vmem, ⟨22, _⟩ => ⟨S32x8x1024, .f32⟩
  | .local _ .vmem, ⟨23, _⟩ => ⟨S32x8x1024, .f32⟩
  | .local _ .vmem, ⟨24, _⟩ => ⟨S32x8x1024, .f32⟩
  | .local _ .vmem, ⟨25, _⟩ => ⟨S32x8x512, .f32⟩
  | .local _ .vmem, ⟨26, _⟩ => ⟨S32x8x512, .f32⟩
  | .local _ .vmem, ⟨27, _⟩ => ⟨S32x8x384, .f32⟩
  | .local _ .vmem, ⟨28, _⟩ => ⟨S32x8x384, .f32⟩
  | .local _ .vmem, ⟨29, _⟩ => ⟨S32x8x384, .f32⟩
  | .local _ .vmem, ⟨30, _⟩ => ⟨S32x8x384, .f32⟩
  | .local _ .vmem, ⟨31, _⟩ => ⟨S16x8x1024, .f32⟩
  | .local _ .vmem, ⟨32, _⟩ => ⟨S16x8x1024, .f32⟩
  | .local _ .vmem, ⟨33, _⟩ => ⟨S16x8x1024, .f32⟩
  | .local _ .vmem, ⟨34, _⟩ => ⟨S16x8x1024, .f32⟩
  | .local _ .vmem, ⟨35, _⟩ => ⟨S16x8x1024, .f32⟩
  | .local _ .vmem, ⟨36, _⟩ => ⟨S16x8x1024, .f32⟩
  | .local _ .vmem, ⟨37, _⟩ => ⟨S16x8x512, .f32⟩
  | .local _ .vmem, ⟨38, _⟩ => ⟨S16x8x512, .f32⟩
  | .local _ .vmem, ⟨39, _⟩ => ⟨S16x8x384, .f32⟩
  | .local _ .vmem, ⟨40, _⟩ => ⟨S16x8x384, .f32⟩
  | .local _ .vmem, ⟨41, _⟩ => ⟨S16x8x384, .f32⟩
  | .local _ .vmem, ⟨42, _⟩ => ⟨S16x8x384, .f32⟩
  | .local _ .vmem, ⟨43, _⟩ => ⟨S16x1024, .f32⟩
  | .local _ .vmem, ⟨44, _⟩ => ⟨S1024x16, .f32⟩
  | .local _ .vmem, ⟨45, _⟩ => ⟨S1x16, .f32⟩
  | .local _ .vmem, ⟨46, _⟩ => ⟨S512x1024, .f32⟩
  | .local _ .vmem, ⟨47, _⟩ => ⟨S512x384, .f32⟩
  | .local _ .vmem, ⟨48, _⟩ => ⟨S512x384, .f32⟩
  | .local _ .vmem, ⟨49, _⟩ => ⟨S384x512, .f32⟩
  | .local _ .vmem, ⟨50, _⟩ => ⟨S384x512, .f32⟩
  | .local _ .vmem, ⟨51, _⟩ => ⟨S1x512, .f32⟩
  | .local _ .vmem, ⟨52, _⟩ => ⟨S1x1024, .f32⟩
  | .local _ .vmem, ⟨53, _⟩ => ⟨S1x1024, .f32⟩
  | .local _ .vmem, ⟨54, _⟩ => ⟨S16x8x1024, .f32⟩
  | .local _ .vmem, ⟨55, _⟩ => ⟨S16x8x1024, .f32⟩
  | .local _ .vmem, ⟨56, _⟩ => ⟨S8x16x512, .f32⟩
  | .local _ .vmem, ⟨57, _⟩ => ⟨S8x16x512, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_cst_3 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_cst_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_12 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59_0 : Ref sig .tc := ⟨.hbm, 93, rfl⟩
abbrev main_v59_1 : Ref sig .tc := ⟨.hbm, 94, rfl⟩
abbrev main_v59_2 : Ref sig .tc := ⟨.hbm, 95, rfl⟩
abbrev main_v59_3 : Ref sig .tc := ⟨.hbm, 96, rfl⟩
abbrev main_v59_4 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66_0 : Ref sig .tc := ⟨.hbm, 104, rfl⟩
abbrev main_v66_1 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc1_stg3_0 : Ref sig .tc := ⟨.vmem, 37, rfl⟩
abbrev cc1_stg3_1 : Ref sig .tc := ⟨.vmem, 38, rfl⟩
abbrev cc1_stg4_0 : Ref sig .tc := ⟨.vmem, 39, rfl⟩
abbrev cc1_stg4_1 : Ref sig .tc := ⟨.vmem, 40, rfl⟩
abbrev cc1_stg5_0 : Ref sig .tc := ⟨.vmem, 41, rfl⟩
abbrev cc1_stg5_1 : Ref sig .tc := ⟨.vmem, 42, rfl⟩
abbrev cc1_stg6_0 : Ref sig .tc := ⟨.vmem, 43, rfl⟩
abbrev cc1_stg7_0 : Ref sig .tc := ⟨.vmem, 44, rfl⟩
abbrev cc1_stg8_0 : Ref sig .tc := ⟨.vmem, 45, rfl⟩
abbrev cc1_stg9_0 : Ref sig .tc := ⟨.vmem, 46, rfl⟩
abbrev cc1_stg10_0 : Ref sig .tc := ⟨.vmem, 47, rfl⟩
abbrev cc1_stg11_0 : Ref sig .tc := ⟨.vmem, 48, rfl⟩
abbrev cc1_stg12_0 : Ref sig .tc := ⟨.vmem, 49, rfl⟩
abbrev cc1_stg13_0 : Ref sig .tc := ⟨.vmem, 50, rfl⟩
abbrev cc1_stg14_0 : Ref sig .tc := ⟨.vmem, 51, rfl⟩
abbrev cc1_stg15_0 : Ref sig .tc := ⟨.vmem, 52, rfl⟩
abbrev cc1_stg16_0 : Ref sig .tc := ⟨.vmem, 53, rfl⟩
abbrev cc1_stg17_0 : Ref sig .tc := ⟨.vmem, 54, rfl⟩
abbrev cc1_stg17_1 : Ref sig .tc := ⟨.vmem, 55, rfl⟩
abbrev cc1_stg18_0 : Ref sig .tc := ⟨.vmem, 56, rfl⟩
abbrev cc1_scratch0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem3_1 : DmaSem sig := 38
abbrev cc1_sem4_0 : DmaSem sig := 39
abbrev cc1_sem4_1 : DmaSem sig := 40
abbrev cc1_sem5_0 : DmaSem sig := 41
abbrev cc1_sem5_1 : DmaSem sig := 42
abbrev cc1_sem6_0 : DmaSem sig := 43
abbrev cc1_sem7_0 : DmaSem sig := 44
abbrev cc1_sem8_0 : DmaSem sig := 45
abbrev cc1_sem9_0 : DmaSem sig := 46
abbrev cc1_sem10_0 : DmaSem sig := 47
abbrev cc1_sem11_0 : DmaSem sig := 48
abbrev cc1_sem12_0 : DmaSem sig := 49
abbrev cc1_sem13_0 : DmaSem sig := 50
abbrev cc1_sem14_0 : DmaSem sig := 51
abbrev cc1_sem15_0 : DmaSem sig := 52
abbrev cc1_sem16_0 : DmaSem sig := 53
abbrev cc1_sem17_0 : DmaSem sig := 54
abbrev cc1_sem17_1 : DmaSem sig := 55
abbrev cc1_sem18_0 : DmaSem sig := 56

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S384x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S32x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x8x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x8x384 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x8x384 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev grid1 : Pipeline.Grid := ⟨1, ![64], ![false]⟩

@[reducible] def k1_t1_loop : Scf.Loop 32 :=
  let c0_i32_14 : BitVec 32 := 0#32
  let c16_i32 : BitVec 32 := 16#32
  let v23 : BitVec 32 := Scalar.addi c0_i32_14 c16_i32
  let c1_i32 : BitVec 32 := 1#32
  ⟨c0_i32_14, v23, c1_i32⟩
def k1_off1 (k1_t1 : Fin k1_t1_loop.trips) : Fin 3 → Nat :=
  let c0_i32_14 : BitVec 32 := 0#32
  let c1_i32 : BitVec 32 := 1#32
  let arg21 : BitVec 32 := Scf.iv c0_i32_14 c1_i32 k1_t1
  let v27 : Index := Scalar.indexCast arg21
  let c0_17 : Index := 0#32
  let c0_18 : Index := 0#32
  ![v27.toNat, 0, 0]
def k1_off2 (k1_t1 : Fin k1_t1_loop.trips) : Fin 3 → Nat :=
  let c0_i32_14 : BitVec 32 := 0#32
  let c1_i32 : BitVec 32 := 1#32
  let arg21 : BitVec 32 := Scf.iv c0_i32_14 c1_i32 k1_t1
  let v81 : Index := Scalar.indexCast arg21
  let c0_32 : Index := 0#32
  let c0_33 : Index := 0#32
  ![v81.toNat, 0, 0]
def k1_off3 (k1_t1 : Fin k1_t1_loop.trips) : Fin 3 → Nat :=
  let c0_i32_14 : BitVec 32 := 0#32
  let c1_i32 : BitVec 32 := 1#32
  let arg21 : BitVec 32 := Scf.iv c0_i32_14 c1_i32 k1_t1
  let v130 : Index := Scalar.indexCast arg21
  let c0_53 : Index := 0#32
  let c0_54 : Index := 0#32
  ![v130.toNat, 0, 0]
def k1_cond2 (i : grid1.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_16 : BitVec 32 := 0#32
  let v26 : BitVec 1 := Scalar.cmpi .ne v25 c0_i32_16
  v26

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S16x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x8x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x8x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S384x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S384x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S16x8x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S8x16x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]
-- ==== ReferenceIdeal.lean ====
abbrev S8x1024x1024 : Shape := ⟨3, ![8, 1024, 1024]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S512x1 : Shape := ⟨2, ![512, 1]⟩
abbrev S1 : Shape := ⟨1, ![1]⟩
abbrev S1552x1024 : Shape := ⟨2, ![1552, 1024]⟩
abbrev S1024x16 : Shape := ⟨2, ![1024, 16]⟩
abbrev S16 : Shape := ⟨1, ![16]⟩
abbrev S1536x1024 : Shape := ⟨2, ![1536, 1024]⟩
abbrev S8x1024x512 : Shape := ⟨3, ![8, 1024, 512]⟩
abbrev S1x1x512 : Shape := ⟨3, ![1, 1, 512]⟩
abbrev S1x1x1024 : Shape := ⟨3, ![1, 1, 1024]⟩
abbrev S_ : Shape := ⟨0, ![]⟩
abbrev S8x1024 : Shape := ⟨2, ![8, 1024]⟩
abbrev S8x1024x1 : Shape := ⟨3, ![8, 1024, 1]⟩
abbrev S512x512 : Shape := ⟨2, ![512, 512]⟩
abbrev S512x512x1 : Shape := ⟨3, ![512, 512, 1]⟩
abbrev S1024x512x512 : Shape := ⟨3, ![1024, 512, 512]⟩
abbrev S1024x512x8 : Shape := ⟨3, ![1024, 512, 8]⟩
abbrev S1024x8x512 : Shape := ⟨3, ![1024, 8, 512]⟩
abbrev S1024x8x1024 : Shape := ⟨3, ![1024, 8, 1024]⟩
abbrev S8x16x512 : Shape := ⟨3, ![8, 16, 512]⟩
abbrev S1x8x512 : Shape := ⟨3, ![1, 8, 512]⟩
abbrev S8x512 : Shape := ⟨2, ![8, 512]⟩
abbrev S1x8x1024 : Shape := ⟨3, ![1, 8, 1024]⟩
abbrev S8x512x512 : Shape := ⟨3, ![8, 512, 512]⟩
abbrev S8x16x1 : Shape := ⟨3, ![8, 16, 1]⟩
abbrev S8x16 : Shape := ⟨2, ![8, 16]⟩
abbrev S8 : Shape := ⟨1, ![8]⟩
abbrev S8x1 : Shape := ⟨2, ![8, 1]⟩
abbrev S8x1552 : Shape := ⟨2, ![8, 1552]⟩
abbrev S1x1024 : Shape := ⟨2, ![1, 1024]⟩
abbrev S1x16 : Shape := ⟨2, ![1, 16]⟩
abbrev S8x1x512 : Shape := ⟨3, ![8, 1, 512]⟩
abbrev S8x1536 : Shape := ⟨2, ![8, 1536]⟩

abbrev nBuf : Space → Nat
  | .hbm => 225
  | .vmem => 0
  | .smem => 0
  | _ => 0

abbrev hbmTy0_0 (i : Nat) : BufTy := match i % 128 with
  | 0 => ⟨S8x1024x1024, .f32⟩
  | 1 => ⟨S1024x512, .f32⟩
  | 2 => ⟨S1024x512, .f32⟩
  | 3 => ⟨S512, .f32⟩
  | 4 => ⟨S1024x1024, .f32⟩
  | 5 => ⟨S1024, .f32⟩
  | 6 => ⟨S1024x1024, .f32⟩
  | 7 => ⟨S1024, .f32⟩
  | 8 => ⟨S1024x512, .f32⟩
  | 9 => ⟨S512, .f32⟩
  | 10 => ⟨S512x1, .f32⟩
  | 11 => ⟨S1, .f32⟩
  | 12 => ⟨S1552x1024, .f32⟩
  | 13 => ⟨S1024, .f32⟩
  | 14 => ⟨S1024x16, .f32⟩
  | 15 => ⟨S16, .f32⟩
  | 16 => ⟨S1536x1024, .f32⟩
  | 17 => ⟨S1024, .f32⟩
  | 18 => ⟨S1024, .f32⟩
  | 19 => ⟨S1024, .f32⟩
  | 20 => ⟨S8x1024x512, .f32⟩
  | 21 => ⟨S1x1x512, .f32⟩
  | 22 => ⟨S8x1024x512, .f32⟩
  | 23 => ⟨S8x1024x512, .f32⟩
  | 24 => ⟨S8x1024x1024, .f32⟩
  | 25 => ⟨S1x1x1024, .f32⟩
  | 26 => ⟨S8x1024x1024, .f32⟩
  | 27 => ⟨S8x1024x1024, .f32⟩
  | 28 => ⟨S8x1024x1024, .f32⟩
  | 29 => ⟨S1x1x1024, .f32⟩
  | 30 => ⟨S8x1024x1024, .f32⟩
  | 31 => ⟨S8x1024x1024, .f32⟩
  | 32 => ⟨S_, .f32⟩
  | 33 => ⟨S8x1024x1024, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S8x1024x512, .f32⟩
  | 42 => ⟨S1x1x512, .f32⟩
  | 43 => ⟨S8x1024x512, .f32⟩
  | 44 => ⟨S8x1024x512, .f32⟩
  | 45 => ⟨S8x1024x512, .f32⟩
  | 46 => ⟨S_, .f32⟩
  | 47 => ⟨S8x1024, .f32⟩
  | 48 => ⟨S8x1024x1, .f32⟩
  | 49 => ⟨S8x1024x1, .f32⟩
  | 50 => ⟨S_, .f32⟩
  | 51 => ⟨S8x1024x1, .f32⟩
  | 52 => ⟨S8x1024x1, .f32⟩
  | 53 => ⟨S8x1024x512, .f32⟩
  | 54 => ⟨S8x1024x512, .f32⟩
  | 55 => ⟨S512x512, .i32⟩
  | 56 => ⟨S512x512, .i32⟩
  | 57 => ⟨S512x512, .i1⟩
  | 58 => ⟨S512x512, .i32⟩
  | 59 => ⟨S512x512, .i32⟩
  | 60 => ⟨S_, .i32⟩
  | 61 => ⟨S512x512, .i32⟩
  | 62 => ⟨S512x512, .i32⟩
  | 63 => ⟨S512x512, .i32⟩
  | 64 => ⟨S512x512x1, .i32⟩
  | 65 => ⟨S1024x512x512, .f32⟩
  | 66 => ⟨S1024x512x8, .f32⟩
  | 67 => ⟨S8x1024x512, .f32⟩
  | 68 => ⟨S1024x8x512, .f32⟩
  | 69 => ⟨S1024x8x512, .f32⟩
  | 70 => ⟨S1024x8x1024, .f32⟩
  | 71 => ⟨S1024x8x512, .f32⟩
  | 72 => ⟨S_, .f32⟩
  | 73 => ⟨S8x16x512, .f32⟩
  | 74 => ⟨S_, .f32⟩
  | 75 => ⟨S1024x8x1024, .f32⟩
  | 76 => ⟨S_, .i32⟩
  | 77 => ⟨S1024x8x512, .f32⟩
  | 78 => ⟨S1024x8x512, .f32⟩
  | 79 => ⟨S1024x8x1024, .f32⟩
  | 80 => ⟨S1024x8x512, .f32⟩
  | 81 => ⟨S512x1, .f32⟩
  | 82 => ⟨S1, .f32⟩
  | 83 => ⟨S1552x1024, .f32⟩
  | 84 => ⟨S1024, .f32⟩
  | 85 => ⟨S1024x16, .f32⟩
  | 86 => ⟨S16, .f32⟩
  | 87 => ⟨S1536x1024, .f32⟩
  | 88 => ⟨S1024, .f32⟩
  | 89 => ⟨S_, .i32⟩
  | 90 => ⟨S8x16x512, .f32⟩
  | 91 => ⟨S1024x8x1024, .f32⟩
  | 92 => ⟨S_, .i32⟩
  | 93 => ⟨S_, .i1⟩
  | 94 => ⟨S_, .i32⟩
  | 95 => ⟨S_, .i32⟩
  | 96 => ⟨S1x8x512, .f32⟩
  | 97 => ⟨S8x512, .f32⟩
  | 98 => ⟨S_, .i32⟩
  | 99 => ⟨S_, .i32⟩
  | 100 => ⟨S1x8x512, .f32⟩
  | 101 => ⟨S8x512, .f32⟩
  | 102 => ⟨S_, .i32⟩
  | 103 => ⟨S_, .i32⟩
  | 104 => ⟨S1x8x1024, .f32⟩
  | 105 => ⟨S8x1024, .f32⟩
  | 106 => ⟨S_, .i32⟩
  | 107 => ⟨S_, .i32⟩
  | 108 => ⟨S1x8x512, .f32⟩
  | 109 => ⟨S8x512, .f32⟩
  | 110 => ⟨S512x512, .i32⟩
  | 111 => ⟨S512x512, .i32⟩
  | 112 => ⟨S512x512, .i1⟩
  | 113 => ⟨S512x512, .i32⟩
  | 114 => ⟨S512x512, .i32⟩
  | 115 => ⟨S_, .i32⟩
  | 116 => ⟨S512x512, .i32⟩
  | 117 => ⟨S512x512, .i32⟩
  | 118 => ⟨S512x512, .i32⟩
  | 119 => ⟨S512x512x1, .i32⟩
  | 120 => ⟨S8x512x512, .f32⟩
  | 121 => ⟨S8x16x512, .f32⟩
  | 122 => ⟨S8x16x1, .f32⟩
  | 123 => ⟨S8x16, .f32⟩
  | 124 => ⟨S_, .f32⟩
  | 125 => ⟨S8x16, .f32⟩
  | 126 => ⟨S8x16, .f32⟩
  | 127 => ⟨S_, .f32⟩
  | _ => ⟨S8x1024x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S8x1, .f32⟩
  | 5 => ⟨S8x16, .f32⟩
  | 6 => ⟨S8x16, .f32⟩
  | 7 => ⟨S8x16, .f32⟩
  | 8 => ⟨S_, .f32⟩
  | 9 => ⟨S8, .f32⟩
  | 10 => ⟨S8x1, .f32⟩
  | 11 => ⟨S8x16, .f32⟩
  | 12 => ⟨S8x16, .f32⟩
  | 13 => ⟨S8x512, .f32⟩
  | 14 => ⟨S8x16x512, .f32⟩
  | 15 => ⟨S_, .f32⟩
  | 16 => ⟨S8x16, .f32⟩
  | 17 => ⟨S8x16, .f32⟩
  | 18 => ⟨S8x1552, .f32⟩
  | 19 => ⟨S8x1024, .f32⟩
  | 20 => ⟨S1x1024, .f32⟩
  | 21 => ⟨S8x1024, .f32⟩
  | 22 => ⟨S8x1024, .f32⟩
  | 23 => ⟨S_, .f32⟩
  | 24 => ⟨S8x1024, .f32⟩
  | 25 => ⟨S8x1024, .f32⟩
  | 26 => ⟨S8x1024, .f32⟩
  | 27 => ⟨S_, .f32⟩
  | 28 => ⟨S8x1024, .f32⟩
  | 29 => ⟨S8x1024, .f32⟩
  | 30 => ⟨S8x1024, .f32⟩
  | 31 => ⟨S8x1024, .f32⟩
  | 32 => ⟨S8x16, .f32⟩
  | 33 => ⟨S1x16, .f32⟩
  | 34 => ⟨S8x16, .f32⟩
  | 35 => ⟨S8x16, .f32⟩
  | 36 => ⟨S8x16, .f32⟩
  | 37 => ⟨S8x16, .f32⟩
  | 38 => ⟨S_, .f32⟩
  | 39 => ⟨S8x16, .f32⟩
  | 40 => ⟨S8x16, .f32⟩
  | 41 => ⟨S_, .f32⟩
  | 42 => ⟨S8x16, .f32⟩
  | 43 => ⟨S8x16, .f32⟩
  | 44 => ⟨S_, .f32⟩
  | 45 => ⟨S8x16x512, .f32⟩
  | 46 => ⟨S8x16x512, .f32⟩
  | 47 => ⟨S8x16x1, .f32⟩
  | 48 => ⟨S8x1x512, .f32⟩
  | 49 => ⟨S8x16x512, .f32⟩
  | 50 => ⟨S8x16x512, .f32⟩
  | 51 => ⟨S8x16x512, .f32⟩
  | 52 => ⟨S8x16x512, .f32⟩
  | 53 => ⟨S8x1536, .f32⟩
  | 54 => ⟨S8x1024, .f32⟩
  | 55 => ⟨S1x1024, .f32⟩
  | 56 => ⟨S8x1024, .f32⟩
  | 57 => ⟨S8x1024, .f32⟩
  | 58 => ⟨S1x8x1024, .f32⟩
  | 59 => ⟨S_, .i32⟩
  | 60 => ⟨S_, .i32⟩
  | 61 => ⟨S1024x8x1024, .f32⟩
  | 62 => ⟨S_, .i32⟩
  | 63 => ⟨S_, .i32⟩
  | 64 => ⟨S8x1024x1024, .f32⟩
  | 65 => ⟨S8x1024x1024, .f32⟩
  | 66 => ⟨S_, .f32⟩
  | 67 => ⟨S8x1024, .f32⟩
  | 68 => ⟨S8x1024x1, .f32⟩
  | 69 => ⟨S_, .f32⟩
  | 70 => ⟨S8x1024x1, .f32⟩
  | 71 => ⟨S8x1024x1, .f32⟩
  | 72 => ⟨S8x1024x1024, .f32⟩
  | 73 => ⟨S8x1024x1024, .f32⟩
  | 74 => ⟨S8x1024x1024, .f32⟩
  | 75 => ⟨S8x1024x1024, .f32⟩
  | 76 => ⟨S8x1024x1024, .f32⟩
  | 77 => ⟨S_, .f32⟩
  | 78 => ⟨S8x1024, .f32⟩
  | 79 => ⟨S8x1024x1, .f32⟩
  | 80 => ⟨S_, .f32⟩
  | 81 => ⟨S8x1024x1, .f32⟩
  | 82 => ⟨S8x1024x1, .f32⟩
  | 83 => ⟨S8x1024x1024, .f32⟩
  | 84 => ⟨S8x1024x1024, .f32⟩
  | 85 => ⟨S_, .f32⟩
  | 86 => ⟨S8x1024x1, .f32⟩
  | 87 => ⟨S8x1024x1, .f32⟩
  | 88 => ⟨S8x1024x1, .f32⟩
  | 89 => ⟨S8x1024x1024, .f32⟩
  | 90 => ⟨S8x1024x1024, .f32⟩
  | 91 => ⟨S1x1x1024, .f32⟩
  | 92 => ⟨S8x1024x1024, .f32⟩
  | 93 => ⟨S8x1024x1024, .f32⟩
  | 94 => ⟨S1x1x1024, .f32⟩
  | 95 => ⟨S8x1024x1024, .f32⟩
  | 96 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_c_5 : Ref sig .tc := ⟨.hbm, 76, rfl⟩
abbrev main_v48_0 : Ref sig .tc := ⟨.hbm, 77, rfl⟩
abbrev main_v48_1 : Ref sig .tc := ⟨.hbm, 78, rfl⟩
abbrev main_v48_2 : Ref sig .tc := ⟨.hbm, 79, rfl⟩
abbrev main_v48_3 : Ref sig .tc := ⟨.hbm, 80, rfl⟩
abbrev main_v48_4 : Ref sig .tc := ⟨.hbm, 81, rfl⟩
abbrev main_v48_5 : Ref sig .tc := ⟨.hbm, 82, rfl⟩
abbrev main_v48_6 : Ref sig .tc := ⟨.hbm, 83, rfl⟩
abbrev main_v48_7 : Ref sig .tc := ⟨.hbm, 84, rfl⟩
abbrev main_v48_8 : Ref sig .tc := ⟨.hbm, 85, rfl⟩
abbrev main_v48_9 : Ref sig .tc := ⟨.hbm, 86, rfl⟩
abbrev main_v48_10 : Ref sig .tc := ⟨.hbm, 87, rfl⟩
abbrev main_v48_11 : Ref sig .tc := ⟨.hbm, 88, rfl⟩
abbrev main_v48_12 : Ref sig .tc := ⟨.hbm, 89, rfl⟩
abbrev main_v48_13 : Ref sig .tc := ⟨.hbm, 90, rfl⟩
abbrev main_v48_14 : Ref sig .tc := ⟨.hbm, 91, rfl⟩
abbrev main_while0c_c_25 : Ref sig .tc := ⟨.hbm, 92, rfl⟩
abbrev main_while0c_v77 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_v0 : Ref sig .tc := ⟨.hbm, 96, rfl⟩
abbrev main_while0b_v77 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_v0 : Ref sig .tc := ⟨.hbm, 100, rfl⟩
abbrev main_while0b_v78 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_v0 : Ref sig .tc := ⟨.hbm, 104, rfl⟩
abbrev main_while0b_v79 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_v0 : Ref sig .tc := ⟨.hbm, 108, rfl⟩
abbrev main_while0b_v80 : Ref sig .tc := ⟨.hbm, 109, rfl⟩
abbrev main_while0b_v81 : Ref sig .tc := ⟨.hbm, 110, rfl⟩
abbrev main_while0b_v82 : Ref sig .tc := ⟨.hbm, 111, rfl⟩
abbrev main_while0b_v83 : Ref sig .tc := ⟨.hbm, 112, rfl⟩
abbrev main_while0b_v84 : Ref sig .tc := ⟨.hbm, 113, rfl⟩
abbrev main_while0b_v85 : Ref sig .tc := ⟨.hbm, 114, rfl⟩
abbrev main_while0b_c_25 : Ref sig .tc := ⟨.hbm, 115, rfl⟩
abbrev main_while0b_v86 : Ref sig .tc := ⟨.hbm, 116, rfl⟩
abbrev main_while0b_v87 : Ref sig .tc := ⟨.hbm, 117, rfl⟩
abbrev main_while0b_v88 : Ref sig .tc := ⟨.hbm, 118, rfl⟩
abbrev main_while0b_call7_v0 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_cst_26 : Ref sig .tc := ⟨.hbm, 127, rfl⟩
abbrev main_while0b_v96 : Ref sig .tc := ⟨.hbm, 128, rfl⟩
abbrev main_while0b_cst_27 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_v101 : Ref sig .tc := ⟨.hbm, 134, rfl⟩
abbrev main_while0b_v102 : Ref sig .tc := ⟨.hbm, 135, rfl⟩
abbrev main_while0b_cst_28 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_cst_29 : Ref sig .tc := ⟨.hbm, 143, rfl⟩
abbrev main_while0b_v109 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_v115 : Ref sig .tc := ⟨.hbm, 150, rfl⟩
abbrev main_while0b_cst_30 : Ref sig .tc := ⟨.hbm, 151, rfl⟩
abbrev main_while0b_v116 : Ref sig .tc := ⟨.hbm, 152, rfl⟩
abbrev main_while0b_v117 : Ref sig .tc := ⟨.hbm, 153, rfl⟩
abbrev main_while0b_v118 : Ref sig .tc := ⟨.hbm, 154, rfl⟩
abbrev main_while0b_cst_31 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_v128 : Ref sig .tc := ⟨.hbm, 165, rfl⟩
abbrev main_while0b_cst_32 : Ref sig .tc := ⟨.hbm, 166, rfl⟩
abbrev main_while0b_v129 : Ref sig .tc := ⟨.hbm, 167, rfl⟩
abbrev main_while0b_v130 : Ref sig .tc := ⟨.hbm, 168, rfl⟩
abbrev main_while0b_cst_33 : Ref sig .tc := ⟨.hbm, 169, rfl⟩
abbrev main_while0b_v131 : Ref sig .tc := ⟨.hbm, 170, rfl⟩
abbrev main_while0b_v132 : Ref sig .tc := ⟨.hbm, 171, rfl⟩
abbrev main_while0b_cst_34 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_v136 : Ref sig .tc := ⟨.hbm, 176, rfl⟩
abbrev main_while0b_v137 : Ref sig .tc := ⟨.hbm, 177, rfl⟩
abbrev main_while0b_v138 : Ref sig .tc := ⟨.hbm, 178, rfl⟩
abbrev main_while0b_v139 : Ref sig .tc := ⟨.hbm, 179, rfl⟩
abbrev main_while0b_v140 : Ref sig .tc := ⟨.hbm, 180, rfl⟩
abbrev main_while0b_v141 : Ref sig .tc := ⟨.hbm, 181, rfl⟩
abbrev main_while0b_v142 : Ref sig .tc := ⟨.hbm, 182, rfl⟩
abbrev main_while0b_v143 : Ref sig .tc := ⟨.hbm, 183, rfl⟩
abbrev main_while0b_v144 : Ref sig .tc := ⟨.hbm, 184, rfl⟩
abbrev main_while0b_v145 : Ref sig .tc := ⟨.hbm, 185, rfl⟩
abbrev main_while0b_call8_v0 : Ref sig .tc := ⟨.hbm, 186, rfl⟩
abbrev main_while0b_call8_c : Ref sig .tc := ⟨.hbm, 187, rfl⟩
abbrev main_while0b_call8_c_0 : Ref sig .tc := ⟨.hbm, 188, rfl⟩
abbrev main_while0b_v146 : Ref sig .tc := ⟨.hbm, 189, rfl⟩
abbrev main_while0b_c_35 : Ref sig .tc := ⟨.hbm, 190, rfl⟩
abbrev main_while0b_v147 : Ref sig .tc := ⟨.hbm, 191, rfl⟩
abbrev main_v49 : Ref sig .tc := ⟨.hbm, 192, rfl⟩
abbrev main_v50 : Ref sig .tc := ⟨.hbm, 193, rfl⟩
abbrev main_cst_6 : Ref sig .tc := ⟨.hbm, 194, rfl⟩
abbrev main_v51 : Ref sig .tc := ⟨.hbm, 195, rfl⟩
abbrev main_v52 : Ref sig .tc := ⟨.hbm, 196, rfl⟩
abbrev main_cst_7 : Ref sig .tc := ⟨.hbm, 197, rfl⟩
abbrev main_v53 : Ref sig .tc := ⟨.hbm, 198, rfl⟩
abbrev main_v54 : Ref sig .tc := ⟨.hbm, 199, rfl⟩
abbrev main_v55 : Ref sig .tc := ⟨.hbm, 200, rfl⟩
abbrev main_v56 : Ref sig .tc := ⟨.hbm, 201, rfl⟩
abbrev main_v57 : Ref sig .tc := ⟨.hbm, 202, rfl⟩
abbrev main_v58 : Ref sig .tc := ⟨.hbm, 203, rfl⟩
abbrev main_v59 : Ref sig .tc := ⟨.hbm, 204, rfl⟩
abbrev main_cst_8 : Ref sig .tc := ⟨.hbm, 205, rfl⟩
abbrev main_v60 : Ref sig .tc := ⟨.hbm, 206, rfl⟩
abbrev main_v61 : Ref sig .tc := ⟨.hbm, 207, rfl⟩
abbrev main_cst_9 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_v65 : Ref sig .tc := ⟨.hbm, 212, rfl⟩
abbrev main_cst_10 : Ref sig .tc := ⟨.hbm, 213, rfl⟩
abbrev main_v66 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev main_v70 : Ref sig .tc := ⟨.hbm, 218, rfl⟩
abbrev main_v71 : Ref sig .tc := ⟨.hbm, 219, rfl⟩
abbrev main_v72 : Ref sig .tc := ⟨.hbm, 220, rfl⟩
abbrev main_v73 : Ref sig .tc := ⟨.hbm, 221, rfl⟩
abbrev main_v74 : Ref sig .tc := ⟨.hbm, 222, rfl⟩
abbrev main_v75 : Ref sig .tc := ⟨.hbm, 223, rfl⟩
abbrev main_v76 : Ref sig .tc := ⟨.hbm, 224, rfl⟩

abbrev nD : Nat := 1
abbrev τ : Topo := Topo.v7x

variable {F : FTy → Type} [FloatOps F]

abbrev main_while0_count : Scf.Loop 32 := ⟨0#32, 1024#32, 1#32⟩
-- ==== Proof.IBase.lean ====
module

public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer of a core. -/
abbrev Vals : Type := (c : Dev nD) → (b : Ref sig .tc) → Buf (Elt F) ((c : Thread nD τ).loc b)

/-- A store over a whole shape leaves what it stores. -/
theorem store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans
    (View.canon_unit_zero h inb w)

theorem zero2 : (![0, 0] : Fin 2 → ℕ) = fun _ => 0 := by decide
theorem zero3 : (![0, 0, 0] : Fin 3 → ℕ) = fun _ => 0 := by decide

/-- So it does whatever the stores before it were. -/
theorem store_whole_cons {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

/-- A load of a whole matrix reads the contents. -/
theorem load2 {d : Fin 2 → ℕ} {e : EltTy} (X : (⟨2, d⟩ : Shape).Idx → Elt F e) (inb : ∀ a, (![0, 0] : Fin 2 → ℕ) a + d a ≤ d a) :
    View.ld X (Rect.unit (s := ⟨2, d⟩) ![0, 0] d inb) = X := View.ld_unit_zero (S := ⟨2, d⟩) zero2 inb X
/-- A load of a whole rank-three block reads the contents. -/
theorem load3 {d : Fin 3 → ℕ} {e : EltTy} (X : (⟨3, d⟩ : Shape).Idx → Elt F e) (inb : ∀ a, (![0, 0, 0] : Fin 3 → ℕ) a + d a ≤ d a) :
    View.ld X (Rect.unit (s := ⟨3, d⟩) ![0, 0, 0] d inb) = X := View.ld_unit_zero (S := ⟨3, d⟩) zero3 inb X

end Cert.KernelIdeal.Hand
-- ==== Proof.IBody0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.IBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first call leaves of the gates before the norm part: one block. -/
def g0Blk (x0 : Vec F S32x8x1024 .f32) (x2 : Vec F S1024x512 .f32) (x3 : Vec F S1x512 .f32) (x4 : Vec F S1024x1024 .f32) (x5 : Vec F S1x1024 .f32) (x10 : Vec F S1024x1024 .f32) (x11 : Vec F S512x1024 .f32) (x12 : Vec F S1x1024 .f32) :
    Vec F S32x8x1024 .f32 :=
  k0_pay1 (k0_pay18 (k0_pay4 x0 x2 x3) (k0_pay5 x0 x4 x5) x10 x11) x12

/-- What it leaves of the query part of the output projection. -/
def o0Blk (x0 : Vec F S32x8x1024 .f32) (x4 : Vec F S1024x1024 .f32) (x5 : Vec F S1x1024 .f32) (x13 : Vec F S1024x1024 .f32) (x14 : Vec F S1x1024 .f32) :
    Vec F S32x8x1024 .f32 :=
  k0_pay2 (k0_pay5 x0 x4 x5) x13 x14

/-- What it leaves of the bound items. -/
def bndBlk (x0 : Vec F S32x8x1024 .f32) (x1 : Vec F S32x512 .f32) (x2 : Vec F S1024x512 .f32) (x3 : Vec F S1x512 .f32) (x15 : Vec F S512x384 .f32) (x16 : Vec F S512x384 .f32) (x17 : Vec F S384x512 .f32) (x18 : Vec F S384x512 .f32) :
    Vec F S32x8x512 .f32 :=
  k0_pay17 (k0_pay11 x15) (k0_pay12 x16) (k0_pay15 (k0_pay4 x0 x2 x3) x15) (k0_pay16 (k0_pay4 x0 x2 x3) x16) x1 x17 x18

/-- What it leaves of the real part of the transformed keys. -/
def krBlk (x0 : Vec F S32x8x1024 .f32) (x4 : Vec F S1024x1024 .f32) (x5 : Vec F S1x1024 .f32) (x6 : Vec F S1024x1024 .f32) (x7 : Vec F S1x1024 .f32) (x8 : Vec F S1024x512 .f32) (x9 : Vec F S1x512 .f32) (x15 : Vec F S512x384 .f32) :
    Vec F S32x8x384 .f32 :=
  k0_pay13 (k0_pay6 x0 x4 x5 x6 x7) (k0_pay7 x0 x4 x5 x6 x7) (k0_pay8 x0 x4 x5 x6 x7) (k0_pay9 x0 x4 x5 x6 x7) x8 x9 x15

/-- What it leaves of the imaginary part of the transformed keys. -/
def kiBlk (x0 : Vec F S32x8x1024 .f32) (x4 : Vec F S1024x1024 .f32) (x5 : Vec F S1x1024 .f32) (x6 : Vec F S1024x1024 .f32) (x7 : Vec F S1x1024 .f32) (x8 : Vec F S1024x512 .f32) (x9 : Vec F S1x512 .f32) (x16 : Vec F S512x384 .f32) :
    Vec F S32x8x384 .f32 :=
  k0_pay14 (k0_pay6 x0 x4 x5 x6 x7) (k0_pay7 x0 x4 x5 x6 x7) (k0_pay8 x0 x4 x5 x6 x7) (k0_pay9 x0 x4 x5 x6 x7) x8 x9 x16

set_option maxHeartbeats 1000000 in
/-- The first call's body at one point: it reads its inputs whole and stores each result block whole. -/
theorem body0_run (c : Dev nD) (E : Set ℕ) (i : grid0.Coords)
    (arg1 : Memref sig .tc .vmem S32x8x1024 .f32) (harg1 : arg1.IsWhole) (arg2 : Memref sig .tc .vmem S32x512 .f32) (harg2 : arg2.IsWhole)
    (arg3 : Memref sig .tc .vmem S1024x512 .f32) (harg3 : arg3.IsWhole) (arg4 : Memref sig .tc .vmem S1x512 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S1024x1024 .f32) (harg7 : arg7.IsWhole) (arg8 : Memref sig .tc .vmem S1x1024 .f32) (harg8 : arg8.IsWhole)
    (arg9 : Memref sig .tc .vmem S1024x512 .f32) (harg9 : arg9.IsWhole) (arg10 : Memref sig .tc .vmem S1x512 .f32) (harg10 : arg10.IsWhole)
    (arg11 : Memref sig .tc .vmem S1024x1024 .f32) (harg11 : arg11.IsWhole) (arg12 : Memref sig .tc .vmem S512x1024 .f32) (harg12 : arg12.IsWhole)
    (arg13 : Memref sig .tc .vmem S1x1024 .f32) (harg13 : arg13.IsWhole) (arg14 : Memref sig .tc .vmem S1024x1024 .f32) (harg14 : arg14.IsWhole)
    (arg15 : Memref sig .tc .vmem S1x1024 .f32) (harg15 : arg15.IsWhole) (arg16 : Memref sig .tc .vmem S512x384 .f32) (harg16 : arg16.IsWhole)
    (arg17 : Memref sig .tc .vmem S512x384 .f32) (harg17 : arg17.IsWhole) (arg18 : Memref sig .tc .vmem S384x512 .f32) (harg18 : arg18.IsWhole)
    (arg19 : Memref sig .tc .vmem S384x512 .f32) (harg19 : arg19.IsWhole) (arg20 : Memref sig .tc .vmem S32x8x1024 .f32) (harg20 : arg20.IsWhole)
    (arg21 : Memref sig .tc .vmem S32x8x1024 .f32) (harg21 : arg21.IsWhole) (arg22 : Memref sig .tc .vmem S32x8x512 .f32) (harg22 : arg22.IsWhole)
    (arg23 : Memref sig .tc .vmem S32x8x384 .f32) (harg23 : arg23.IsWhole) (arg24 : Memref sig .tc .vmem S32x8x384 .f32) (harg24 : arg24.IsWhole)
    (x0 : Vec F S32x8x1024 .f32) (x1 : Vec F S32x512 .f32) (x2 : Vec F S1024x512 .f32) (x3 : Vec F S1x512 .f32) (x4 : Vec F S1024x1024 .f32)
    (x5 : Vec F S1x1024 .f32) (x6 : Vec F S1024x1024 .f32) (x7 : Vec F S1x1024 .f32) (x8 : Vec F S1024x512 .f32) (x9 : Vec F S1x512 .f32)
    (x10 : Vec F S1024x1024 .f32) (x11 : Vec F S512x1024 .f32) (x12 : Vec F S1x1024 .f32) (x13 : Vec F S1024x1024 .f32) (x14 : Vec F S1x1024 .f32)
    (x15 : Vec F S512x384 .f32) (x16 : Vec F S512x384 .f32) (x17 : Vec F S384x512 .f32) (x18 : Vec F S384x512 .f32) (Q : PUnit → sProp 𝕄) :
    iprop(
      owns (c : Thread nD τ) arg1 fullShare x0 ∗ owns (c : Thread nD τ) arg2 fullShare x1 ∗ owns (c : Thread nD τ) arg3 fullShare x2 ∗
      owns (c : Thread nD τ) arg4 fullShare x3 ∗ owns (c : Thread nD τ) arg5 fullShare x4 ∗ owns (c : Thread nD τ) arg6 fullShare x5 ∗
      owns (c : Thread nD τ) arg7 fullShare x6 ∗ owns (c : Thread nD τ) arg8 fullShare x7 ∗ owns (c : Thread nD τ) arg9 fullShare x8 ∗
      owns (c : Thread nD τ) arg10 fullShare x9 ∗ owns (c : Thread nD τ) arg11 fullShare x10 ∗ owns (c : Thread nD τ) arg12 fullShare x11 ∗
      owns (c : Thread nD τ) arg13 fullShare x12 ∗ owns (c : Thread nD τ) arg14 fullShare x13 ∗ owns (c : Thread nD τ) arg15 fullShare x14 ∗
      owns (c : Thread nD τ) arg16 fullShare x15 ∗ owns (c : Thread nD τ) arg17 fullShare x16 ∗ owns (c : Thread nD τ) arg18 fullShare x17 ∗
      owns (c : Thread nD τ) arg19 fullShare x18 ∗ (∃ d, owns (c : Thread nD τ) arg20 fullShare d) ∗
      (∃ d, owns (c : Thread nD τ) arg21 fullShare d) ∗ (∃ d, owns (c : Thread nD τ) arg22 fullShare d) ∗
      (∃ d, owns (c : Thread nD τ) arg23 fullShare d) ∗ (∃ d, owns (c : Thread nD τ) arg24 fullShare d) ∗
      (iprop(
        owns (c : Thread nD τ) arg1 fullShare x0 ∗ owns (c : Thread nD τ) arg2 fullShare x1 ∗ owns (c : Thread nD τ) arg3 fullShare x2 ∗
        owns (c : Thread nD τ) arg4 fullShare x3 ∗ owns (c : Thread nD τ) arg5 fullShare x4 ∗ owns (c : Thread nD τ) arg6 fullShare x5 ∗
        owns (c : Thread nD τ) arg7 fullShare x6 ∗ owns (c : Thread nD τ) arg8 fullShare x7 ∗ owns (c : Thread nD τ) arg9 fullShare x8 ∗
        owns (c : Thread nD τ) arg10 fullShare x9 ∗ owns (c : Thread nD τ) arg11 fullShare x10 ∗ owns (c : Thread nD τ) arg12 fullShare x11 ∗
        owns (c : Thread nD τ) arg13 fullShare x12 ∗ owns (c : Thread nD τ) arg14 fullShare x13 ∗ owns (c : Thread nD τ) arg15 fullShare x14 ∗
        owns (c : Thread nD τ) arg16 fullShare x15 ∗ owns (c : Thread nD τ) arg17 fullShare x16 ∗ owns (c : Thread nD τ) arg18 fullShare x17 ∗
        owns (c : Thread nD τ) arg19 fullShare x18 ∗ owns (c : Thread nD τ) arg20 fullShare (g0Blk x0 x2 x3 x4 x5 x10 x11 x12) ∗
        owns (c : Thread nD τ) arg21 fullShare (o0Blk x0 x4 x5 x13 x14) ∗
        owns (c : Thread nD τ) arg22 fullShare (bndBlk x0 x1 x2 x3 x15 x16 x17 x18) ∗
        owns (c : Thread nD τ) arg23 fullShare (krBlk x0 x4 x5 x6 x7 x8 x9 x15) ∗
        owns (c : Thread nD τ) arg24 fullShare (kiBlk x0 x4 x5 x6 x7 x8 x9 x16)) -∗ Q ⟨⟩))
      ⊢ wp frame (wpE (defs₀ (F := F)) Variants.none c none) E (cc0__precompute_body i
        arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 arg22 harg22 arg23
        harg23 arg24 harg24) Q := by
  simp only [cc0__precompute_body_eq_skeleton]; unfold cc0__precompute_body_skel
  simp only [k0_part1_eq_skeleton, k0_part2_eq_skeleton, k0_part3_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩,
    ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩,
    ⟨%d22, %f22, -, H22⟩, ⟨%d23, %f23, -, H23⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr; swap; · iexact H19
    ipureintro; refine (store_whole _ _ zero3 _ _).trans ?_
    exact (rfl : _ = g0Blk
        (View.ld (View.read (Elt F) arg1.view f0) (Rect.unit (s := S32x8x1024) ![0, 0, 0] S32x8x1024.size inb_S32x8x1024_S32x8x1024_0_0_0))
        (View.ld (View.read (Elt F) arg3.view f2) (Rect.unit (s := S1024x512) ![0, 0] S1024x512.size inb_S1024x512_S1024x512_0_0))
        (View.ld (View.read (Elt F) arg4.view f3) (Rect.unit (s := S1x512) ![0, 0] S1x512.size inb_S1x512_S1x512_0_0))
        (View.ld (View.read (Elt F) arg5.view f4) (Rect.unit (s := S1024x1024) ![0, 0] S1024x1024.size inb_S1024x1024_S1024x1024_0_0))
        (View.ld (View.read (Elt F) arg6.view f5) (Rect.unit (s := S1x1024) ![0, 0] S1x1024.size inb_S1x1024_S1x1024_0_0))
        (View.ld (View.read (Elt F) arg11.view f10) (Rect.unit (s := S1024x1024) ![0, 0] S1024x1024.size inb_S1024x1024_S1024x1024_0_0))
        (View.ld (View.read (Elt F) arg12.view f11) (Rect.unit (s := S512x1024) ![0, 0] S512x1024.size inb_S512x1024_S512x1024_0_0))
        (View.ld (View.read (Elt F) arg13.view f12) (Rect.unit (s := S1x1024) ![0, 0] S1x1024.size inb_S1x1024_S1x1024_0_0))).trans (by simp only [load2, load3])
  isplitl [H20]
  · iexists _; isplitr; swap; · iexact H20
    ipureintro; refine (store_whole _ _ zero3 _ _).trans ?_
    exact (rfl : _ = o0Blk
        (View.ld (View.read (Elt F) arg1.view f0) (Rect.unit (s := S32x8x1024) ![0, 0, 0] S32x8x1024.size inb_S32x8x1024_S32x8x1024_0_0_0))
        (View.ld (View.read (Elt F) arg5.view f4) (Rect.unit (s := S1024x1024) ![0, 0] S1024x1024.size inb_S1024x1024_S1024x1024_0_0))
        (View.ld (View.read (Elt F) arg6.view f5) (Rect.unit (s := S1x1024) ![0, 0] S1x1024.size inb_S1x1024_S1x1024_0_0))
        (View.ld (View.read (Elt F) arg14.view f13) (Rect.unit (s := S1024x1024) ![0, 0] S1024x1024.size inb_S1024x1024_S1024x1024_0_0))
        (View.ld (View.read (Elt F) arg15.view f14) (Rect.unit (s := S1x1024) ![0, 0] S1x1024.size inb_S1x1024_S1x1024_0_0))).trans (by simp only [load2, load3])
  isplitl [H21]
  · iexists _; isplitr; swap; · iexact H21
    ipureintro; refine (store_whole _ _ zero3 _ _).trans ?_
    exact (rfl : _ = bndBlk
        (View.ld (View.read (Elt F) arg1.view f0) (Rect.unit (s := S32x8x1024) ![0, 0, 0] S32x8x1024.size inb_S32x8x1024_S32x8x1024_0_0_0))
        (View.ld (View.read (Elt F) arg2.view f1) (Rect.unit (s := S32x512) ![0, 0] S32x512.size inb_S32x512_S32x512_0_0))
        (View.ld (View.read (Elt F) arg3.view f2) (Rect.unit (s := S1024x512) ![0, 0] S1024x512.size inb_S1024x512_S1024x512_0_0))
        (View.ld (View.read (Elt F) arg4.view f3) (Rect.unit (s := S1x512) ![0, 0] S1x512.size inb_S1x512_S1x512_0_0))
        (View.ld (View.read (Elt F) arg16.view f15) (Rect.unit (s := S512x384) ![0, 0] S512x384.size inb_S512x384_S512x384_0_0))
        (View.ld (View.read (Elt F) arg17.view f16) (Rect.unit (s := S512x384) ![0, 0] S512x384.size inb_S512x384_S512x384_0_0))
        (View.ld (View.read (Elt F) arg18.view f17) (Rect.unit (s := S384x512) ![0, 0] S384x512.size inb_S384x512_S384x512_0_0))
        (View.ld (View.read (Elt F) arg19.view f18) (Rect.unit (s := S384x512) ![0, 0] S384x512.size inb_S384x512_S384x512_0_0))).trans (by simp only [load2, load3])
  isplitl [H22]
  · iexists _; isplitr; swap; · iexact H22
    ipureintro; refine (store_whole _ _ zero3 _ _).trans ?_
    exact (rfl : _ = krBlk
        (View.ld (View.read (Elt F) arg1.view f0) (Rect.unit (s := S32x8x1024) ![0, 0, 0] S32x8x1024.size inb_S32x8x1024_S32x8x1024_0_0_0))
        (View.ld (View.read (Elt F) arg5.view f4) (Rect.unit (s := S1024x1024) ![0, 0] S1024x1024.size inb_S1024x1024_S1024x1024_0_0))
        (View.ld (View.read (Elt F) arg6.view f5) (Rect.unit (s := S1x1024) ![0, 0] S1x1024.size inb_S1x1024_S1x1024_0_0))
        (View.ld (View.read (Elt F) arg7.view f6) (Rect.unit (s := S1024x1024) ![0, 0] S1024x1024.size inb_S1024x1024_S1024x1024_0_0))
        (View.ld (View.read (Elt F) arg8.view f7) (Rect.unit (s := S1x1024) ![0, 0] S1x1024.size inb_S1x1024_S1x1024_0_0))
        (View.ld (View.read (Elt F) arg9.view f8) (Rect.unit (s := S1024x512) ![0, 0] S1024x512.size inb_S1024x512_S1024x512_0_0))
        (View.ld (View.read (Elt F) arg10.view f9) (Rect.unit (s := S1x512) ![0, 0] S1x512.size inb_S1x512_S1x512_0_0))
        (View.ld (View.read (Elt F) arg16.view f15) (Rect.unit (s := S512x384) ![0, 0] S512x384.size inb_S512x384_S512x384_0_0))).trans (by simp only [load2, load3])
  iexists _; isplitr; swap; · iexact H23
  ipureintro; refine (store_whole _ _ zero3 _ _).trans ?_
  exact (rfl : _ = kiBlk
      (View.ld (View.read (Elt F) arg1.view f0) (Rect.unit (s := S32x8x1024) ![0, 0, 0] S32x8x1024.size inb_S32x8x1024_S32x8x1024_0_0_0))
      (View.ld (View.read (Elt F) arg5.view f4) (Rect.unit (s := S1024x1024) ![0, 0] S1024x1024.size inb_S1024x1024_S1024x1024_0_0))
      (View.ld (View.read (Elt F) arg6.view f5) (Rect.unit (s := S1x1024) ![0, 0] S1x1024.size inb_S1x1024_S1x1024_0_0))
      (View.ld (View.read (Elt F) arg7.view f6) (Rect.unit (s := S1024x1024) ![0, 0] S1024x1024.size inb_S1024x1024_S1024x1024_0_0))
      (View.ld (View.read (Elt F) arg8.view f7) (Rect.unit (s := S1x1024) ![0, 0] S1x1024.size inb_S1x1024_S1x1024_0_0))
      (View.ld (View.read (Elt F) arg9.view f8) (Rect.unit (s := S1024x512) ![0, 0] S1024x512.size inb_S1024x512_S1024x512_0_0))
      (View.ld (View.read (Elt F) arg10.view f9) (Rect.unit (s := S1x512) ![0, 0] S1x512.size inb_S1x512_S1x512_0_0))
      (View.ld (View.read (Elt F) arg17.view f16) (Rect.unit (s := S512x384) ![0, 0] S512x384.size inb_S512x384_S512x384_0_0))).trans (by simp only [load2, load3])

/-- Window `w`'s block at a point, of what its array holds at entry. -/
def blk0 (W : Vals (F := F)) (c : Dev nD) (w : Fin cfg0.W) (t : Fin cfg0.N) :
    ((cfg0.win w).xblock (cfg0.grid.coords t)).Idx → Elt F (cfg0.win w).elt :=
  ((cfg0.win w).blk t).view.read (Elt F) (W c (Pipeline.arrRef spec0 w))

variable (W : Vals (F := F))

/-- The first call's proof data: inputs keep their blocks, results take the body's. -/
def dat0 (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => blk0 W c 2 t
    | ⟨3, _⟩ => blk0 W c 3 t
    | ⟨4, _⟩ => blk0 W c 4 t
    | ⟨5, _⟩ => blk0 W c 5 t
    | ⟨6, _⟩ => blk0 W c 6 t
    | ⟨7, _⟩ => blk0 W c 7 t
    | ⟨8, _⟩ => blk0 W c 8 t
    | ⟨9, _⟩ => blk0 W c 9 t
    | ⟨10, _⟩ => blk0 W c 10 t
    | ⟨11, _⟩ => blk0 W c 11 t
    | ⟨12, _⟩ => blk0 W c 12 t
    | ⟨13, _⟩ => blk0 W c 13 t
    | ⟨14, _⟩ => blk0 W c 14 t
    | ⟨15, _⟩ => blk0 W c 15 t
    | ⟨16, _⟩ => blk0 W c 16 t
    | ⟨17, _⟩ => blk0 W c 17 t
    | ⟨18, _⟩ => blk0 W c 18 t
    | ⟨19, _⟩ => g0Blk (blk0 W c 0 t) (blk0 W c 2 t) (blk0 W c 3 t) (blk0 W c 4 t) (blk0 W c 5 t) (blk0 W c 10 t) (blk0 W c 11 t) (blk0 W c 12 t)
    | ⟨20, _⟩ => o0Blk (blk0 W c 0 t) (blk0 W c 4 t) (blk0 W c 5 t) (blk0 W c 13 t) (blk0 W c 14 t)
    | ⟨21, _⟩ => bndBlk (blk0 W c 0 t) (blk0 W c 1 t) (blk0 W c 2 t) (blk0 W c 3 t) (blk0 W c 15 t) (blk0 W c 16 t) (blk0 W c 17 t) (blk0 W c 18 t)
    | ⟨22, _⟩ => krBlk (blk0 W c 0 t) (blk0 W c 4 t) (blk0 W c 5 t) (blk0 W c 6 t) (blk0 W c 7 t) (blk0 W c 8 t) (blk0 W c 9 t) (blk0 W c 15 t)
    | ⟨23, _⟩ => kiBlk (blk0 W c 0 t) (blk0 W c 4 t) (blk0 W c 5 t) (blk0 W c 6 t) (blk0 W c 7 t) (blk0 W c 8 t) (blk0 W c 9 t) (blk0 W c 16 t)
    | ⟨_ + 24, h⟩ => absurd h (Nat.not_lt.2 (Nat.le_add_left _ _))
  Φ _ := Pipeline.ΦA spec0 c
  q _ := fullShare
  owed _ := 0

theorem dat0_A (c : Dev nD) (w : Fin cfg0.W) : (dat0 W c).A w = W c (Pipeline.arrRef spec0 w) := by dsimp only [dat0]
theorem after0_0 (c : Dev nD) (t : Fin cfg0.N) : (dat0 W c).after 0 t = blk0 W c 0 t := by dsimp only [dat0]
theorem after0_1 (c : Dev nD) (t : Fin cfg0.N) : (dat0 W c).after 1 t = blk0 W c 1 t := by dsimp only [dat0]
theorem after0_2 (c : Dev nD) (t : Fin cfg0.N) : (dat0 W c).after 2 t = blk0 W c 2 t := by dsimp only [dat0]
theorem after0_3 (c : Dev nD) (t : Fin cfg0.N) : (dat0 W c).after 3 t = blk0 W c 3 t := by dsimp only [dat0]
theorem after0_4 (c : Dev nD) (t : Fin cfg0.N) : (dat0 W c).after 4 t = blk0 W c 4 t := by dsimp only [dat0]
theorem after0_5 (c : Dev nD) (t : Fin cfg0.N) : (dat0 W c).after 5 t = blk0 W c 5 t := by dsimp only [dat0]
theorem after0_6 (c : Dev nD) (t : Fin cfg0.N) : (dat0 W c).after 6 t = blk0 W c 6 t := by dsimp only [dat0]
theorem after0_7 (c : Dev nD) (t : Fin cfg0.N) : (dat0 W c).after 7 t = blk0 W c 7 t := by dsimp only [dat0]
theorem after0_8 (c : Dev nD) (t : Fin cfg0.N) : (dat0 W c).after 8 t = blk0 W c 8 t := by dsimp only [dat0]
theorem after0_9 (c : Dev nD) (t : Fin cfg0.N) : (dat0 W c).after 9 t = blk0 W c 9 t := by dsimp only [dat0]
theorem after0_10 (c : Dev nD) (t : Fin cfg0.N) : (dat0 W c).after 10 t = blk0 W c 10 t := by dsimp only [dat0]
theorem after0_11 (c : Dev nD) (t : Fin cfg0.N) : (dat0 W c).after 11 t = blk0 W c 11 t := by dsimp only [dat0]
theorem after0_12 (c : Dev nD) (t : Fin cfg0.N) : (dat0 W c).after 12 t = blk0 W c 12 t := by dsimp only [dat0]
theorem after0_13 (c : Dev nD) (t : Fin cfg0.N) : (dat0 W c).after 13 t = blk0 W c 13 t := by dsimp only [dat0]
theorem after0_14 (c : Dev nD) (t : Fin cfg0.N) : (dat0 W c).after 14 t = blk0 W c 14 t := by dsimp only [dat0]
theorem after0_15 (c : Dev nD) (t : Fin cfg0.N) : (dat0 W c).after 15 t = blk0 W c 15 t := by dsimp only [dat0]
theorem after0_16 (c : Dev nD) (t : Fin cfg0.N) : (dat0 W c).after 16 t = blk0 W c 16 t := by dsimp only [dat0]
theorem after0_17 (c : Dev nD) (t : Fin cfg0.N) : (dat0 W c).after 17 t = blk0 W c 17 t := by dsimp only [dat0]
theorem after0_18 (c : Dev nD) (t : Fin cfg0.N) : (dat0 W c).after 18 t = blk0 W c 18 t := by dsimp only [dat0]
theorem after0_19 (c : Dev nD) (t : Fin cfg0.N) : (dat0 W c).after 19 t =
    g0Blk (blk0 W c 0 t) (blk0 W c 2 t) (blk0 W c 3 t) (blk0 W c 4 t) (blk0 W c 5 t) (blk0 W c 10 t) (blk0 W c 11 t) (blk0 W c 12 t) := by dsimp only [dat0]
theorem after0_20 (c : Dev nD) (t : Fin cfg0.N) : (dat0 W c).after 20 t =
    o0Blk (blk0 W c 0 t) (blk0 W c 4 t) (blk0 W c 5 t) (blk0 W c 13 t) (blk0 W c 14 t) := by dsimp only [dat0]
theorem after0_21 (c : Dev nD) (t : Fin cfg0.N) : (dat0 W c).after 21 t =
    bndBlk (blk0 W c 0 t) (blk0 W c 1 t) (blk0 W c 2 t) (blk0 W c 3 t) (blk0 W c 15 t) (blk0 W c 16 t) (blk0 W c 17 t) (blk0 W c 18 t) := by dsimp only [dat0]
theorem after0_22 (c : Dev nD) (t : Fin cfg0.N) : (dat0 W c).after 22 t =
    krBlk (blk0 W c 0 t) (blk0 W c 4 t) (blk0 W c 5 t) (blk0 W c 6 t) (blk0 W c 7 t) (blk0 W c 8 t) (blk0 W c 9 t) (blk0 W c 15 t) := by dsimp only [dat0]
theorem after0_23 (c : Dev nD) (t : Fin cfg0.N) : (dat0 W c).after 23 t =
    kiBlk (blk0 W c 0 t) (blk0 W c 4 t) (blk0 W c 5 t) (blk0 W c 6 t) (blk0 W c 7 t) (blk0 W c 8 t) (blk0 W c 9 t) (blk0 W c 16 t) := by dsimp only [dat0]
theorem before0_0 (c : Dev nD) (t : Fin cfg0.N) (d) : (dat0 W c).before 0 t d = blk0 W c 0 t :=
  ((dat0 W c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 W c).before 1 t d = blk0 W c 1 t :=
  ((dat0 W c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 W c).before 2 t d = blk0 W c 2 t :=
  ((dat0 W c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 W c).before 3 t d = blk0 W c 3 t :=
  ((dat0 W c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 W c).before 4 t d = blk0 W c 4 t :=
  ((dat0 W c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 W c).before 5 t d = blk0 W c 5 t :=
  ((dat0 W c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
theorem before0_6 (c : Dev nD) (t : Fin cfg0.N) (d) : (dat0 W c).before 6 t d = blk0 W c 6 t :=
  ((dat0 W c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)
theorem before0_7 (c : Dev nD) (t : Fin cfg0.N) (d) : (dat0 W c).before 7 t d = blk0 W c 7 t :=
  ((dat0 W c).before_in_eq_fetched 7 rfl (fun _ => rfl) (fun _ _ _ => rfl)
    (fun t => by rw [after0_7]; unfold Dat.blockOf blk0; rw [dat0_A]; try rfl) t d).trans
    (by unfold Dat.fetched Dat.blockOf blk0; rw [dat0_A]; try rfl)
theorem before0_8 (c : Dev nD) (t : Fin cfg0.N) (d) : (dat0 W c).before 8 t d = blk0 W c 8 t :=
  ((dat0 W c).before_in_eq_fetched 8 rfl (fun _ => rfl) (fun _ _ _ => rfl)
    (fun t => by rw [after0_8]; unfold Dat.blockOf blk0; rw [dat0_A]; try rfl) t d).trans
    (by unfold Dat.fetched Dat.blockOf blk0; rw [dat0_A]; try rfl)
theorem before0_9 (c : Dev nD) (t : Fin cfg0.N) (d) : (dat0 W c).before 9 t d = blk0 W c 9 t :=
  ((dat0 W c).before_in_eq_fetched 9 rfl (fun _ => rfl) (fun _ _ _ => rfl)
    (fun t => by rw [after0_9]; unfold Dat.blockOf blk0; rw [dat0_A]; try rfl) t d).trans
    (by unfold Dat.fetched Dat.blockOf blk0; rw [dat0_A]; try rfl)
theorem before0_10 (c : Dev nD) (t : Fin cfg0.N) (d) : (dat0 W c).before 10 t d = blk0 W c 10 t :=
  ((dat0 W c).before_in_eq_fetched 10 rfl (fun _ => rfl) (fun _ _ _ => rfl)
    (fun t => by rw [after0_10]; unfold Dat.blockOf blk0; rw [dat0_A]; try rfl) t d).trans
    (by unfold Dat.fetched Dat.blockOf blk0; rw [dat0_A]; try rfl)
theorem before0_11 (c : Dev nD) (t : Fin cfg0.N) (d) : (dat0 W c).before 11 t d = blk0 W c 11 t :=
  ((dat0 W c).before_in_eq_fetched 11 rfl (fun _ => rfl) (fun _ _ _ => rfl)
    (fun t => by rw [after0_11]; unfold Dat.blockOf blk0; rw [dat0_A]; try rfl) t d).trans
    (by unfold Dat.fetched Dat.blockOf blk0; rw [dat0_A]; try rfl)
theorem before0_12 (c : Dev nD) (t : Fin cfg0.N) (d) : (dat0 W c).before 12 t d = blk0 W c 12 t :=
  ((dat0 W c).before_in_eq_fetched 12 rfl (fun _ => rfl) (fun _ _ _ => rfl)
    (fun t => by rw [after0_12]; unfold Dat.blockOf blk0; rw [dat0_A]; try rfl) t d).trans
    (by unfold Dat.fetched Dat.blockOf blk0; rw [dat0_A]; try rfl)
theorem before0_13 (c : Dev nD) (t : Fin cfg0.N) (d) : (dat0 W c).before 13 t d = blk0 W c 13 t :=
  ((dat0 W c).before_in_eq_fetched 13 rfl (fun _ => rfl) (fun _ _ _ => rfl)
    (fun t => by rw [after0_13]; unfold Dat.blockOf blk0; rw [dat0_A]; try rfl) t d).trans
    (by unfold Dat.fetched Dat.blockOf blk0; rw [dat0_A]; try rfl)
theorem before0_14 (c : Dev nD) (t : Fin cfg0.N) (d) : (dat0 W c).before 14 t d = blk0 W c 14 t :=
  ((dat0 W c).before_in_eq_fetched 14 rfl (fun _ => rfl) (fun _ _ _ => rfl)
    (fun t => by rw [after0_14]; unfold Dat.blockOf blk0; rw [dat0_A]; try rfl) t d).trans
    (by unfold Dat.fetched Dat.blockOf blk0; rw [dat0_A]; try rfl)
theorem before0_15 (c : Dev nD) (t : Fin cfg0.N) (d) : (dat0 W c).before 15 t d = blk0 W c 15 t :=
  ((dat0 W c).before_in_eq_fetched 15 rfl (fun _ => rfl) (fun _ _ _ => rfl)
    (fun t => by rw [after0_15]; unfold Dat.blockOf blk0; rw [dat0_A]; try rfl) t d).trans
    (by unfold Dat.fetched Dat.blockOf blk0; rw [dat0_A]; try rfl)
theorem before0_16 (c : Dev nD) (t : Fin cfg0.N) (d) : (dat0 W c).before 16 t d = blk0 W c 16 t :=
  ((dat0 W c).before_in_eq_fetched 16 rfl (fun _ => rfl) (fun _ _ _ => rfl)
    (fun t => by rw [after0_16]; unfold Dat.blockOf blk0; rw [dat0_A]; try rfl) t d).trans
    (by unfold Dat.fetched Dat.blockOf blk0; rw [dat0_A]; try rfl)
theorem before0_17 (c : Dev nD) (t : Fin cfg0.N) (d) : (dat0 W c).before 17 t d = blk0 W c 17 t :=
  ((dat0 W c).before_in_eq_fetched 17 rfl (fun _ => rfl) (fun _ _ _ => rfl)
    (fun t => by rw [after0_17]; unfold Dat.blockOf blk0; rw [dat0_A]; try rfl) t d).trans
    (by unfold Dat.fetched Dat.blockOf blk0; rw [dat0_A]; try rfl)
theorem before0_18 (c : Dev nD) (t : Fin cfg0.N) (d) : (dat0 W c).before 18 t d = blk0 W c 18 t :=
  ((dat0 W c).before_in_eq_fetched 18 rfl (fun _ => rfl) (fun _ _ _ => rfl)
    (fun t => by rw [after0_18]; unfold Dat.blockOf blk0; rw [dat0_A]; try rfl) t d).trans
    (by unfold Dat.fetched Dat.blockOf blk0; rw [dat0_A]; try rfl)

/-- What the body starts a point with. -/
def pre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d))
    ∗ (∃ d, owns (c : Thread nD τ) (st0_9 t) fullShare ((dat0 W c).before 9 t d))
    ∗ (∃ d, owns (c : Thread nD τ) (st0_10 t) fullShare ((dat0 W c).before 10 t d))
    ∗ (∃ d, owns (c : Thread nD τ) (st0_11 t) fullShare ((dat0 W c).before 11 t d))
    ∗ (∃ d, owns (c : Thread nD τ) (st0_12 t) fullShare ((dat0 W c).before 12 t d))
    ∗ (∃ d, owns (c : Thread nD τ) (st0_13 t) fullShare ((dat0 W c).before 13 t d))
    ∗ (∃ d, owns (c : Thread nD τ) (st0_14 t) fullShare ((dat0 W c).before 14 t d))
    ∗ (∃ d, owns (c : Thread nD τ) (st0_15 t) fullShare ((dat0 W c).before 15 t d))
    ∗ (∃ d, owns (c : Thread nD τ) (st0_16 t) fullShare ((dat0 W c).before 16 t d))
    ∗ (∃ d, owns (c : Thread nD τ) (st0_17 t) fullShare ((dat0 W c).before 17 t d))
    ∗ (∃ d, owns (c : Thread nD τ) (st0_18 t) fullShare ((dat0 W c).before 18 t d))
    ∗ (∃ d, owns (c : Thread nD τ) (st0_19 t) fullShare ((dat0 W c).before 19 t d))
    ∗ (∃ d, owns (c : Thread nD τ) (st0_20 t) fullShare ((dat0 W c).before 20 t d))
    ∗ (∃ d, owns (c : Thread nD τ) (st0_21 t) fullShare ((dat0 W c).before 21 t d))
    ∗ (∃ d, owns (c : Thread nD τ) (st0_22 t) fullShare ((dat0 W c).before 22 t d))
    ∗ (∃ d, owns (c : Thread nD τ) (st0_23 t) fullShare ((dat0 W c).before 23 t d)))

/-- What it ends it with. -/
def post0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t)
    ∗ owns (c : Thread nD τ) (st0_7 t) fullShare ((dat0 W c).after 7 t)
    ∗ owns (c : Thread nD τ) (st0_8 t) fullShare ((dat0 W c).after 8 t)
    ∗ owns (c : Thread nD τ) (st0_9 t) fullShare ((dat0 W c).after 9 t)
    ∗ owns (c : Thread nD τ) (st0_10 t) fullShare ((dat0 W c).after 10 t)
    ∗ owns (c : Thread nD τ) (st0_11 t) fullShare ((dat0 W c).after 11 t)
    ∗ owns (c : Thread nD τ) (st0_12 t) fullShare ((dat0 W c).after 12 t)
    ∗ owns (c : Thread nD τ) (st0_13 t) fullShare ((dat0 W c).after 13 t)
    ∗ owns (c : Thread nD τ) (st0_14 t) fullShare ((dat0 W c).after 14 t)
    ∗ owns (c : Thread nD τ) (st0_15 t) fullShare ((dat0 W c).after 15 t)
    ∗ owns (c : Thread nD τ) (st0_16 t) fullShare ((dat0 W c).after 16 t)
    ∗ owns (c : Thread nD τ) (st0_17 t) fullShare ((dat0 W c).after 17 t)
    ∗ owns (c : Thread nD τ) (st0_18 t) fullShare ((dat0 W c).after 18 t)
    ∗ owns (c : Thread nD τ) (st0_19 t) fullShare ((dat0 W c).after 19 t)
    ∗ owns (c : Thread nD τ) (st0_20 t) fullShare ((dat0 W c).after 20 t)
    ∗ owns (c : Thread nD τ) (st0_21 t) fullShare ((dat0 W c).after 21 t)
    ∗ owns (c : Thread nD τ) (st0_22 t) fullShare ((dat0 W c).after 22 t)
    ∗ owns (c : Thread nD τ) (st0_23 t) fullShare ((dat0 W c).after 23 t))

set_option maxHeartbeats 1000000 in
theorem sound0 (c : Dev nD) (t : Fin cfg0.N) :
    pre0 W c t ⊢ wp frame (wpE (defs₀ (F := F)) Variants.none c none) Set.univ (bodyAt0 t) (fun _ => post0 W c t) := by
  unfold pre0 post0 bodyAt0
  simp only [
    before0_0, before0_1, before0_2, before0_3, before0_4, before0_5, before0_6, before0_7, before0_8, before0_9, before0_10, before0_11, before0_12,
    before0_13, before0_14, before0_15, before0_16, before0_17, before0_18]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6, after0_7, after0_8, after0_9, after0_10, after0_11, after0_12, after0_13,
    after0_14, after0_15, after0_16, after0_17, after0_18, after0_19, after0_20, after0_21, after0_22, after0_23]
  iintro ⟨HΦ, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩,
    ⟨%d23, H23⟩⟩
  iapply (body0_run c Set.univ (grid0.coords t)
    _ _ _ _ _ _ _ _ _ _ _ _ _ _ _ _ _ _ _ _ _ _ _ _ _ _ _ _ _ _ _ _ _ _ _ _ _ _ _ _ _ _ _ _ _ _ _ _
    (blk0 W c 0 t) (blk0 W c 1 t) (blk0 W c 2 t) (blk0 W c 3 t) (blk0 W c 4 t) (blk0 W c 5 t) (blk0 W c 6 t) (blk0 W c 7 t) (blk0 W c 8 t)
    (blk0 W c 9 t) (blk0 W c 10 t) (blk0 W c 11 t) (blk0 W c 12 t) (blk0 W c 13 t) (blk0 W c 14 t) (blk0 W c 15 t) (blk0 W c 16 t) (blk0 W c 17 t)
    (blk0 W c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  iintro ⟨K0, K1, K2, K3, K4, K5, K6, K7, K8, K9, K10, K11, K12, K13, K14, K15, K16, K17, K18, K19, K20, K21, K22, K23⟩
  isplitl [HΦ]; · iexact HΦ
  isplitl [Ho]; · iexact Ho
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  isplitl [K16]; · iexact K16
  isplitl [K17]; · iexact K17
  isplitl [K18]; · iexact K18
  isplitl [K19]; · iexact K19
  isplitl [K20]; · iexact K20
  isplitl [K21]; · iexact K21
  isplitl [K22]; · iexact K22
  iexact K23

theorem row0 (t : Fin cfg0.N) :
    defs₀ (F := F) .tc cfg0.body (cfg0.bodyArgs t (cfg0.slots t)) = bodyAt0 t := by
  unfold defs₀; rw [Defs.onTc_tc]

set_option maxHeartbeats 1000000 in
theorem obligation0 (c : Dev nD) : BodyObligation (dat0 (F := F) W c) (defs₀ (F := F)) Variants.none () Set.univ := fun t => by
  rw [bigSep_W0, bigSep_W0, row0]
  exact triple_restated (sound0 W c t) rfl .rfl fun _ => .rfl

end Cert.KernelIdeal.Hand
-- ==== Proof.IScan.lean ====
module

public import proofs.«01_k».proof.Proof.Gen.KernelIdeal.Loops
public import proofs.«01_k».proof.Proof.IBase
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of a block of sixteen. -/
abbrev row1024 (x : Vec F S16x8x1024 .f32) (k : Fin k1_t1_loop.trips) : Vec F S1x8x1024 .f32 :=
  View.ld x (Rect.unit (s := S16x8x1024) (k1_off2 k) S1x8x1024.size (k1_off2_inb k))
abbrev row512 (x : Vec F S16x8x512 .f32) (k : Fin k1_t1_loop.trips) : Vec F S1x8x512 .f32 :=
  View.ld x (Rect.unit (s := S16x8x512) (k1_off3 k) S1x8x512.size (k1_off3_inb k))
abbrev row384 (x : Vec F S16x8x384 .f32) (k : Fin k1_t1_loop.trips) : Vec F S1x8x384 .f32 :=
  View.ld x (Rect.unit (s := S16x8x384) (k1_off1 k) S1x8x384.size (k1_off1_inb k))

/-- The memory after one step. -/
def hNext (x1 : Vec F S16x8x1024 .f32) (x4 : Vec F S16x8x512 .f32) (x7 : Vec F S16x1024 .f32) (x8 : Vec F S1024x16 .f32) (x9 : Vec F S1x16 .f32)
    (k : Fin k1_t1_loop.trips) (h : Vec F S8x16x512 .f32) : Vec F S8x16x512 .f32 :=
  k1_pay18 (k1_pay4 x8) h (k1_pay13 (k1_pay3 x7) h (row1024 x1 k)) (k1_pay14 (k1_pay3 x7) h (row1024 x1 k))
    (k1_pay15 (k1_pay3 x7) h (row1024 x1 k)) (k1_pay16 (k1_pay3 x7) h (row1024 x1 k)) (k1_pay17 (F := F)) x9 (row512 x4 k)

/-- What the memory and the projections give at one step, before the residual. -/
def vRow (x2 : Vec F S16x8x1024 .f32) (x5 : Vec F S16x8x384 .f32) (x6 : Vec F S16x8x384 .f32) (x10 : Vec F S512x1024 .f32) (x11 : Vec F S512x384 .f32) (x12 : Vec F S512x384 .f32) (x13 : Vec F S384x512 .f32) (x14 : Vec F S384x512 .f32) (x15 : Vec F S1x512 .f32)
    (k : Fin k1_t1_loop.trips) (h : Vec F S8x16x512 .f32) : FVec F S8x1024 .f32 :=
  k1_pay12 (k1_pay10 (k1_pay5 x11) (k1_pay6 x12) (k1_pay7 x13) (k1_pay8 x14) (row384 x5 k) (row384 x6 k) h)
    (k1_pay11 (k1_pay2 x15) (k1_pay5 x11) (k1_pay6 x12) (k1_pay7 x13) (k1_pay8 x14) (row384 x5 k) (row384 x6 k) h)
    (row1024 x2 k) x10

/-- The result row of one step. -/
def oRow (x2 : Vec F S16x8x1024 .f32) (x3 : Vec F S16x8x1024 .f32) (x5 : Vec F S16x8x384 .f32) (x6 : Vec F S16x8x384 .f32) (x10 : Vec F S512x1024 .f32) (x11 : Vec F S512x384 .f32) (x12 : Vec F S512x384 .f32) (x13 : Vec F S384x512 .f32) (x14 : Vec F S384x512 .f32) (x15 : Vec F S1x512 .f32) (x16 : Vec F S1x1024 .f32) (x17 : Vec F S1x1024 .f32)
    (k : Fin k1_t1_loop.trips) (h : Vec F S8x16x512 .f32) : FVec F S1x8x1024 .f32 :=
  k1_pay9 (k1_pay19 (vRow x2 x5 x6 x10 x11 x12 x13 x14 x15 k h) (row1024 x3 k))
    (k1_pay20 (vRow x2 x5 x6 x10 x11 x12 x13 x14 x15 k h) (row1024 x3 k))
    (Scalar.ofBits .f32 0x3727C5AC#32) x16 x17

/-- The memory before step `k` of a point that finds `h` in it. -/
def hAt (x1 : Vec F S16x8x1024 .f32) (x4 : Vec F S16x8x512 .f32) (x7 : Vec F S16x1024 .f32) (x8 : Vec F S1024x16 .f32) (x9 : Vec F S1x16 .f32)
    (h : Vec F S8x16x512 .f32) : ℕ → Vec F S8x16x512 .f32
  | 0 => h
  | k + 1 => if hk : k < k1_t1_loop.trips then hNext x1 x4 x7 x8 x9 ⟨k, hk⟩ (hAt x1 x4 x7 x8 x9 h k) else hAt x1 x4 x7 x8 x9 h k

theorem hAt_succ (x1 : Vec F S16x8x1024 .f32) (x4 : Vec F S16x8x512 .f32) (x7 : Vec F S16x1024 .f32) (x8 : Vec F S1024x16 .f32) (x9 : Vec F S1x16 .f32)
    (h : Vec F S8x16x512 .f32) (k : Fin k1_t1_loop.trips) :
    hAt x1 x4 x7 x8 x9 h (k.val + 1) = hNext x1 x4 x7 x8 x9 k (hAt x1 x4 x7 x8 x9 h k.val) := by
  rw [hAt]; exact dif_pos k.isLt

/-- The index of a result block's row read as one row. -/
abbrev rowIdx (y : S16x8x1024.Idx) : S1x8x1024.Idx := fun | 0 => (0 : Fin 1) | 1 => y 1 | 2 => y 2

theorem trips_eq : k1_t1_loop.trips = 16 := by decide

/-- The result block of a point that finds `h` in the memory. -/
def oBlk (x1 : Vec F S16x8x1024 .f32) (x2 : Vec F S16x8x1024 .f32) (x3 : Vec F S16x8x1024 .f32) (x4 : Vec F S16x8x512 .f32) (x5 : Vec F S16x8x384 .f32) (x6 : Vec F S16x8x384 .f32) (x7 : Vec F S16x1024 .f32) (x8 : Vec F S1024x16 .f32) (x9 : Vec F S1x16 .f32) (x10 : Vec F S512x1024 .f32) (x11 : Vec F S512x384 .f32) (x12 : Vec F S512x384 .f32) (x13 : Vec F S384x512 .f32) (x14 : Vec F S384x512 .f32) (x15 : Vec F S1x512 .f32) (x16 : Vec F S1x1024 .f32) (x17 : Vec F S1x1024 .f32)
    (h : Vec F S8x16x512 .f32) : Vec F S16x8x1024 .f32 := fun y =>
  oRow x2 x3 x5 x6 x10 x11 x12 x13 x14 x15 x16 x17 ⟨(y 0).val, lt_of_lt_of_eq (y 0).isLt trips_eq.symm⟩ (hAt x1 x4 x7 x8 x9 h (y 0).val) (rowIdx y)

theorem off2_eq : ∀ k : Fin k1_t1_loop.trips, k1_off2 k = ![k.val, 0, 0] := by decide

section trips

variable (𝒱 : Variants) (c : Dev nD) (bd : Option 𝒱.V) (i : grid1.Coords)
  (arg1 : Memref sig .tc .vmem S16x8x1024 .f32) (harg1 : arg1.IsWhole) (arg2 : Memref sig .tc .vmem S16x8x1024 .f32) (harg2 : arg2.IsWhole)
  (arg3 : Memref sig .tc .vmem S16x8x1024 .f32) (harg3 : arg3.IsWhole) (arg4 : Memref sig .tc .vmem S16x8x512 .f32) (harg4 : arg4.IsWhole)
  (arg5 : Memref sig .tc .vmem S16x8x384 .f32) (harg5 : arg5.IsWhole) (arg6 : Memref sig .tc .vmem S16x8x384 .f32) (harg6 : arg6.IsWhole)
  (arg7 : Memref sig .tc .vmem S16x1024 .f32) (harg7 : arg7.IsWhole) (arg8 : Memref sig .tc .vmem S1024x16 .f32) (harg8 : arg8.IsWhole)
  (arg9 : Memref sig .tc .vmem S1x16 .f32) (harg9 : arg9.IsWhole) (arg10 : Memref sig .tc .vmem S512x1024 .f32) (harg10 : arg10.IsWhole)
  (arg11 : Memref sig .tc .vmem S512x384 .f32) (harg11 : arg11.IsWhole) (arg12 : Memref sig .tc .vmem S512x384 .f32) (harg12 : arg12.IsWhole)
  (arg13 : Memref sig .tc .vmem S384x512 .f32) (harg13 : arg13.IsWhole) (arg14 : Memref sig .tc .vmem S384x512 .f32) (harg14 : arg14.IsWhole)
  (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S16x8x1024 .f32) (harg18 : arg18.IsWhole)
  (arg19 : Memref sig .tc .vmem S8x16x512 .f32) (harg19 : arg19.IsWhole) (arg20 : Memref sig .tc .vmem S8x16x512 .f32) (harg20 : arg20.IsWhole)
  (v3 : Vec F S1x512 .f32) (v8 : Vec F S16x1024 .f32) (v12 : Vec F S1024x16 .f32) (v15 : Vec F S512x384 .f32)
  (v17 : Vec F S512x384 .f32) (v19 : Vec F S384x512 .f32) (v21 : Vec F S384x512 .f32)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X9 : BufTy.Contents (Elt F) arg9.view.ty) (X10 : BufTy.Contents (Elt F) arg10.view.ty) (X16 : BufTy.Contents (Elt F) arg16.view.ty)
  (X17 : BufTy.Contents (Elt F) arg17.view.ty)

/-- What one trip stores: the result's row, and the memory whole. -/
theorem trip_stores (k : Fin k1_t1_loop.trips) (f18 : BufTy.Contents (Elt F) arg18.view.ty) (f20 : BufTy.Contents (Elt F) arg20.view.ty) :
    tripL_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 k f18 f20
      = ([⟨Rect.unit (s := S16x8x1024) (k1_off2 k) S1x8x1024.size (k1_off2_inb k), oRow
            (arg2.view.read (Elt F) X2) (arg3.view.read (Elt F) X3) (arg5.view.read (Elt F) X5) (arg6.view.read (Elt F) X6) (arg10.view.read (Elt F)
            X10) v15 v17 v19 v21 v3 (arg16.view.read (Elt F) X16) (arg17.view.read (Elt F) X17) k (arg20.view.read (Elt F) f20)⟩],
        [⟨Rect.unit (s := S8x16x512) ![0, 0, 0] S8x16x512.size inb_S8x16x512_S8x16x512_0_0_0, hNext
            (arg1.view.read (Elt F) X1) (arg4.view.read (Elt F) X4) v8 v12 (arg9.view.read (Elt F) X9) k (arg20.view.read (Elt F) f20)⟩]) := by
  unfold tripL_k1_t1 trip_k1_t1
  exact (rfl : _ = (([⟨Rect.unit (s := S16x8x1024) (k1_off2 k) S1x8x1024.size (k1_off2_inb k), oRow
            (arg2.view.read (Elt F) X2) (arg3.view.read (Elt F) X3) (arg5.view.read (Elt F) X5) (arg6.view.read (Elt F) X6)
            (View.ld (arg10.view.read (Elt F) X10) (Rect.unit (s := S512x1024) ![0, 0] S512x1024.size inb_S512x1024_S512x1024_0_0)) v15 v17 v19 v21
            v3 (View.ld (arg16.view.read (Elt F) X16) (Rect.unit (s := S1x1024) ![0, 0] S1x1024.size inb_S1x1024_S1x1024_0_0))
            (View.ld (arg17.view.read (Elt F) X17) (Rect.unit (s := S1x1024) ![0, 0] S1x1024.size inb_S1x1024_S1x1024_0_0)) k (View.ld (arg20.view.read (Elt F) f20) (Rect.unit (s := S8x16x512) ![0, 0, 0] S8x16x512.size inb_S8x16x512_S8x16x512_0_0_0))⟩] : List (View.Piece (Elt F) S16x8x1024 .f32)),
        ([⟨Rect.unit (s := S8x16x512) ![0, 0, 0] S8x16x512.size inb_S8x16x512_S8x16x512_0_0_0, hNext
            (arg1.view.read (Elt F) X1) (arg4.view.read (Elt F) X4) v8 v12
            (View.ld (arg9.view.read (Elt F) X9) (Rect.unit (s := S1x16) ![0, 0] S1x16.size inb_S1x16_S1x16_0_0)) k (View.ld (arg20.view.read (Elt F) f20) (Rect.unit (s := S8x16x512) ![0, 0, 0] S8x16x512.size inb_S8x16x512_S8x16x512_0_0_0))⟩] : List (View.Piece (Elt F) S8x16x512 .f32)))).trans (by simp only [load2, load3])

variable (G18 : BufTy.Contents (Elt F) arg18.view.ty) (G20 : BufTy.Contents (Elt F) arg20.view.ty)

/-- The memory after `k` trips. -/
theorem memory_after : ∀ k : ℕ, k ≤ 16 →
    arg20.view.read (Elt F) (arg20.view.writes (Elt F) G20 (pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 k).2)
      = hAt
        (arg1.view.read (Elt F) X1) (arg4.view.read (Elt F) X4) v8 v12 (arg9.view.read (Elt F) X9) (arg20.view.read (Elt F) G20) k
  | 0, _ => rfl
  | k + 1, hk => by
    have hk' : k < k1_t1_loop.trips := lt_of_lt_of_eq hk trips_eq.symm
    have ih := memory_after k (Nat.le_of_succ_le hk)
    rw [show pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 (k + 1) = _ from pb_k1_t1_succ (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 ⟨k, hk'⟩, trip_stores]
    simp only [List.singleton_append]
    rw [store_whole_cons _ _ zero3, ih]
    exact (hAt_succ (k := ⟨k, hk'⟩) ..).symm

/-- The result's rows after `k` trips. -/
theorem result_after : ∀ k : ℕ, k ≤ 16 → ∀ y : S16x8x1024.Idx, (y 0).val < k →
    arg18.view.read (Elt F) (arg18.view.writes (Elt F) G18 (pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 k).1) y
      = oBlk
        (arg1.view.read (Elt F) X1) (arg2.view.read (Elt F) X2) (arg3.view.read (Elt F) X3) (arg4.view.read (Elt F) X4) (arg5.view.read (Elt F) X5)
        (arg6.view.read (Elt F) X6) v8 v12 (arg9.view.read (Elt F) X9) (arg10.view.read (Elt F) X10) v15 v17 v19 v21 v3 (arg16.view.read (Elt F) X16)
        (arg17.view.read (Elt F) X17) (arg20.view.read (Elt F) G20) y
  | 0, _, _, hy => absurd hy (Nat.not_lt_zero _)
  | k + 1, hk, y, hy => by
    have hk' : k < k1_t1_loop.trips := lt_of_lt_of_eq hk trips_eq.symm
    have ih := result_after k (Nat.le_of_succ_le hk) y
    have hm := memory_after (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 k (Nat.le_of_succ_le hk)
    rw [show pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 (k + 1) = _ from pb_k1_t1_succ (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 ⟨k, hk'⟩, trip_stores]
    simp only [List.singleton_append]
    by_cases h : (y 0).val = k
    · refine (View.read_writes_cons_unit_of_mem _ _ _ _ _ y (rowIdx y) (off2_eq ⟨k, hk'⟩) ?_).trans ?_
      · intro a
        match a with
        | ⟨0, _⟩ => exact h
        | ⟨1, _⟩ => exact (Nat.zero_add _).symm
        | ⟨2, _⟩ => exact (Nat.zero_add _).symm
      · rw [hm]; unfold oBlk; simp only [h]
    · rw [View.read_writes_cons_unit_of_not_mem _ _ _ _ _ y (off2_eq ⟨k, hk'⟩) 0 (Or.inl (by
        show (y 0).val < k; omega))]
      exact ih (by omega)

/-- The memory and the result after the whole loop, of the values the loop starts from. -/
theorem memory_final {h : Vec F S8x16x512 .f32} {y7 : Vec F S16x1024 .f32} {y8 : Vec F S1024x16 .f32}
    (hG : arg20.view.read (Elt F) G20 = h) (h7 : v8 = y7) (h8 : v12 = y8) :
    arg20.view.read (Elt F) (arg20.view.writes (Elt F) G20 (pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 k1_t1_loop.trips).2)
      = hAt
        (arg1.view.read (Elt F) X1) (arg4.view.read (Elt F) X4) y7 y8 (arg9.view.read (Elt F) X9) h 16 := by
  subst hG h7 h8
  exact (memory_after (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 _ trips_eq.le).trans (congrArg _ trips_eq)

theorem result_final {h : Vec F S8x16x512 .f32} {y7 : Vec F S16x1024 .f32} {y8 : Vec F S1024x16 .f32}
    {y11 y12 : Vec F S512x384 .f32} {y13 y14 : Vec F S384x512 .f32} {y15 : Vec F S1x512 .f32}
    (hG : arg20.view.read (Elt F) G20 = h) (h7 : v8 = y7) (h8 : v12 = y8)
    (h11 : v15 = y11) (h12 : v17 = y12) (h13 : v19 = y13) (h14 : v21 = y14) (h15 : v3 = y15) :
    arg18.view.read (Elt F) (arg18.view.writes (Elt F) G18 (pb_k1_t1 (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 k1_t1_loop.trips).1)
      = oBlk
        (arg1.view.read (Elt F) X1) (arg2.view.read (Elt F) X2) (arg3.view.read (Elt F) X3) (arg4.view.read (Elt F) X4) (arg5.view.read (Elt F) X5)
        (arg6.view.read (Elt F) X6) y7 y8 (arg9.view.read (Elt F) X9) (arg10.view.read (Elt F) X10) y11 y12 y13 y14 y15 (arg16.view.read (Elt F) X16)
        (arg17.view.read (Elt F) X17) h := by
  subst hG h7 h8 h11 h12 h13 h14 h15
  exact funext fun y => result_after (F := F) 𝒱 c bd i
      arg1 harg1 arg2 harg2 arg3 harg3 arg4 harg4 arg5 harg5 arg6 harg6 arg7 harg7 arg8 harg8 arg9 harg9 arg10 harg10 arg11 harg11 arg12 harg12 arg13
      harg13 arg14 harg14 arg15 harg15 arg16 harg16 arg17 harg17 arg18 harg18 arg19 harg19 arg20 harg20
      v3 v8 v12 v15 v17 v19 v21 X1 X2 X3 X4 X5 X6 X9 X10 X16 X17 G18 G20 _ trips_eq.le y
    (lt_of_lt_of_eq (y 0).isLt trips_eq.symm)

end trips

end Cert.KernelIdeal.Hand
-- ==== Proof.IBody1.lean ====
module

public import proofs.«01_k».proof.Proof.Gen.KernelIdeal.Loops
public import proofs.«01_k».proof.Proof.Gen.KernelIdeal.Points
public import proofs.«01_k».proof.Proof.IScan

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's test, -/
abbrev isFirst (i : grid1.Coords) : Prop := (Scalar.cmpi .ne (Scalar.extui (Scalar.cmpi .eq (BitVec.ofNat 32 (i 0).val) 0#32)) 0#32) = 1#1
/-- and the last point's. -/
abbrev isLast (i : grid1.Coords) : Prop := k1_cond2 i = 1#1

theorem isFirst_iff : ∀ t : Fin grid1.N, isFirst (grid1.coords t) ↔ t.val = 0 := by decide +kernel
theorem isLast_iff : ∀ t : Fin grid1.N, isLast (grid1.coords t) ↔ t.val = 63 := by decide +kernel

/-- What the memory holds when a point's steps start. -/
def startAt (i : grid1.Coords) (x20 : Vec F S8x16x512 .f32) : Vec F S8x16x512 .f32 :=
  if isFirst i then k1_pay1 (F := F) else x20

set_option maxHeartbeats 4000000 in
/-- The second call's body at one point. -/
theorem body1_run (c : Dev nD) (E : Set ℕ) (i : grid1.Coords)
    (arg1 : Memref sig .tc .vmem S16x8x1024 .f32) (harg1 : arg1.IsWhole) (arg2 : Memref sig .tc .vmem S16x8x1024 .f32) (harg2 : arg2.IsWhole)
    (arg3 : Memref sig .tc .vmem S16x8x1024 .f32) (harg3 : arg3.IsWhole) (arg4 : Memref sig .tc .vmem S16x8x512 .f32) (harg4 : arg4.IsWhole)
    (arg5 : Memref sig .tc .vmem S16x8x384 .f32) (harg5 : arg5.IsWhole) (arg6 : Memref sig .tc .vmem S16x8x384 .f32) (harg6 : arg6.IsWhole)
    (arg7 : Memref sig .tc .vmem S16x1024 .f32) (harg7 : arg7.IsWhole) (arg8 : Memref sig .tc .vmem S1024x16 .f32) (harg8 : arg8.IsWhole)
    (arg9 : Memref sig .tc .vmem S1x16 .f32) (harg9 : arg9.IsWhole) (arg10 : Memref sig .tc .vmem S512x1024 .f32) (harg10 : arg10.IsWhole)
    (arg11 : Memref sig .tc .vmem S512x384 .f32) (harg11 : arg11.IsWhole) (arg12 : Memref sig .tc .vmem S512x384 .f32) (harg12 : arg12.IsWhole)
    (arg13 : Memref sig .tc .vmem S384x512 .f32) (harg13 : arg13.IsWhole) (arg14 : Memref sig .tc .vmem S384x512 .f32) (harg14 : arg14.IsWhole)
    (arg15 : Memref sig .tc .vmem S1x512 .f32) (harg15 : arg15.IsWhole) (arg16 : Memref sig .tc .vmem S1x1024 .f32) (harg16 : arg16.IsWhole)
    (arg17 : Memref sig .tc .vmem S1x1024 .f32) (harg17 : arg17.IsWhole) (arg18 : Memref sig .tc .vmem S16x8x1024 .f32) (harg18 : arg18.IsWhole)
    (arg19 : Memref sig .tc .vmem S8x16x512 .f32) (harg19 : arg19.IsWhole) (arg20 : Memref sig .tc .vmem S8x16x512 .f32) (harg20 : arg20.IsWhole)
    (x1 : Vec F S16x8x1024 .f32) (x2 : Vec F S16x8x1024 .f32) (x3 : Vec F S16x8x1024 .f32) (x4 : Vec F S16x8x512 .f32) (x5 : Vec F S16x8x384 .f32)
    (x6 : Vec F S16x8x384 .f32) (x7 : Vec F S16x1024 .f32) (x8 : Vec F S1024x16 .f32) (x9 : Vec F S1x16 .f32) (x10 : Vec F S512x1024 .f32)
    (x11 : Vec F S512x384 .f32) (x12 : Vec F S512x384 .f32) (x13 : Vec F S384x512 .f32) (x14 : Vec F S384x512 .f32) (x15 : Vec F S1x512 .f32)
    (x16 : Vec F S1x1024 .f32) (x17 : Vec F S1x1024 .f32) (x19 : Vec F S8x16x512 .f32) (x20 : Vec F S8x16x512 .f32) (Q : PUnit → sProp 𝕄) :
    iprop(
      owns (c : Thread nD τ) arg1 fullShare x1 ∗ owns (c : Thread nD τ) arg2 fullShare x2 ∗ owns (c : Thread nD τ) arg3 fullShare x3 ∗
      owns (c : Thread nD τ) arg4 fullShare x4 ∗ owns (c : Thread nD τ) arg5 fullShare x5 ∗ owns (c : Thread nD τ) arg6 fullShare x6 ∗
      owns (c : Thread nD τ) arg7 fullShare x7 ∗ owns (c : Thread nD τ) arg8 fullShare x8 ∗ owns (c : Thread nD τ) arg9 fullShare x9 ∗
      owns (c : Thread nD τ) arg10 fullShare x10 ∗ owns (c : Thread nD τ) arg11 fullShare x11 ∗ owns (c : Thread nD τ) arg12 fullShare x12 ∗
      owns (c : Thread nD τ) arg13 fullShare x13 ∗ owns (c : Thread nD τ) arg14 fullShare x14 ∗ owns (c : Thread nD τ) arg15 fullShare x15 ∗
      owns (c : Thread nD τ) arg16 fullShare x16 ∗ owns (c : Thread nD τ) arg17 fullShare x17 ∗ (∃ d, owns (c : Thread nD τ) arg18 fullShare d) ∗
      owns (c : Thread nD τ) arg19 fullShare x19 ∗ owns (c : Thread nD τ) arg20 fullShare x20 ∗
      (iprop(
        owns (c : Thread nD τ) arg1 fullShare x1 ∗ owns (c : Thread nD τ) arg2 fullShare x2 ∗ owns (c : Thread nD τ) arg3 fullShare x3 ∗
        owns (c : Thread nD τ) arg4 fullShare x4 ∗ owns (c : Thread nD τ) arg5 fullShare x5 ∗ owns (c : Thread nD τ) arg6 fullShare x6 ∗
        owns (c : Thread nD τ) arg7 fullShare x7 ∗ owns (c : Thread nD τ) arg8 fullShare x8 ∗ owns (c : Thread nD τ) arg9 fullShare x9 ∗
        owns (c : Thread nD τ) arg10 fullShare x10 ∗ owns (c : Thread nD τ) arg11 fullShare x11 ∗ owns (c : Thread nD τ) arg12 fullShare x12 ∗
        owns (c : Thread nD τ) arg13 fullShare x13 ∗ owns (c : Thread nD τ) arg14 fullShare x14 ∗ owns (c : Thread nD τ) arg15 fullShare x15 ∗
        owns (c : Thread nD τ) arg16 fullShare x16 ∗ owns (c : Thread nD τ) arg17 fullShare x17 ∗
        owns (c : Thread nD τ) arg18 fullShare (oBlk x1 x2 x3 x4 x5 x6 x7 x8 x9 x10 x11 x12 x13 x14 x15 x16 x17 (startAt i x20)) ∗
        owns (c : Thread nD τ) arg19 fullShare (if isLast i then (hAt x1 x4 x7 x8 x9 (startAt i x20) 16) else x19) ∗
        owns (c : Thread nD τ) arg20 fullShare (hAt x1 x4 x7 x8 x9 (startAt i x20) 16)) -∗ Q ⟨⟩))
      ⊢ wp frame (wpE (defs₀ (F := F)) Variants.none c none) E (cc1__scan_body i
        arg1 harg1 arg2 harg2 arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20) Q := by
  simp only [cc1__scan_body_eq_skeleton]; unfold cc1__scan_body_skel
  unfold owns
  iintro ⟨
    ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%d18, %f18, -, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf19 hf20
  by_cases hc0 : isFirst i
  · rw [startAt, if_pos hc0]
    by_cases hc1 : isLast i
    · rw [if_pos hc1]
      sl_exec (disch := first | sl_exact hc0 | sl_exact hc1)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists f15; isplitr; · ipureintro; rfl
        iexact H15
      isplitl [H16]
      · iexists f16; isplitr; · ipureintro; rfl
        iexact H16
      isplitl [H17]
      · iexists f17; isplitr; · ipureintro; rfl
        iexact H17
      isplitl [H18]
      · iexists _; isplitr; swap; · iexact H18
        ipureintro
        exact result_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          (store_whole _ _ zero3 _ _) (load2 _ _) (load2 _ _) (load2 _ _) (load2 _ _) (load2 _ _) (load2 _ _) (load2 _ _)
      isplitl [H19]
      · iexists _; isplitr; swap; · iexact H19
        ipureintro; refine (store_whole _ _ zero3 _ _).trans ?_
        refine (load3 _ _).trans ?_
        rw [View.writes_append]
        exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          (store_whole _ _ zero3 _ _) (load2 _ _) (load2 _ _)
      iexists _; isplitr; swap; · iexact H20
      ipureintro
      rw [View.writes_append]
      exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        (store_whole _ _ zero3 _ _) (load2 _ _) (load2 _ _)
    · rw [if_neg hc1]
      sl_exec (disch := first | sl_exact hc0 | sl_exact hc1)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists f15; isplitr; · ipureintro; rfl
        iexact H15
      isplitl [H16]
      · iexists f16; isplitr; · ipureintro; rfl
        iexact H16
      isplitl [H17]
      · iexists f17; isplitr; · ipureintro; rfl
        iexact H17
      isplitl [H18]
      · iexists _; isplitr; swap; · iexact H18
        ipureintro
        exact result_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          (store_whole _ _ zero3 _ _) (load2 _ _) (load2 _ _) (load2 _ _) (load2 _ _) (load2 _ _) (load2 _ _) (load2 _ _)
      isplitl [H19]
      · iexists f19; isplitr; · ipureintro; rfl
        iexact H19
      iexists _; isplitr; swap; · iexact H20
      ipureintro
      rw [View.writes_append]
      exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        (store_whole _ _ zero3 _ _) (load2 _ _) (load2 _ _)
  · rw [startAt, if_neg hc0]
    by_cases hc1 : isLast i
    · rw [if_pos hc1]
      sl_exec (disch := first | sl_exact hc0 | sl_exact hc1)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists f15; isplitr; · ipureintro; rfl
        iexact H15
      isplitl [H16]
      · iexists f16; isplitr; · ipureintro; rfl
        iexact H16
      isplitl [H17]
      · iexists f17; isplitr; · ipureintro; rfl
        iexact H17
      isplitl [H18]
      · iexists _; isplitr; swap; · iexact H18
        ipureintro
        exact result_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          rfl (load2 _ _) (load2 _ _) (load2 _ _) (load2 _ _) (load2 _ _) (load2 _ _) (load2 _ _)
      isplitl [H19]
      · iexists _; isplitr; swap; · iexact H19
        ipureintro; refine (store_whole _ _ zero3 _ _).trans ?_
        refine (load3 _ _).trans ?_
        exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          rfl (load2 _ _) (load2 _ _)
      iexists _; isplitr; swap; · iexact H20
      ipureintro
      exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        rfl (load2 _ _) (load2 _ _)
    · rw [if_neg hc1]
      sl_exec (disch := first | sl_exact hc0 | sl_exact hc1)
      sl_step
      iapply Hk
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists f8; isplitr; · ipureintro; rfl
        iexact H8
      isplitl [H9]
      · iexists f9; isplitr; · ipureintro; rfl
        iexact H9
      isplitl [H10]
      · iexists f10; isplitr; · ipureintro; rfl
        iexact H10
      isplitl [H11]
      · iexists f11; isplitr; · ipureintro; rfl
        iexact H11
      isplitl [H12]
      · iexists f12; isplitr; · ipureintro; rfl
        iexact H12
      isplitl [H13]
      · iexists f13; isplitr; · ipureintro; rfl
        iexact H13
      isplitl [H14]
      · iexists f14; isplitr; · ipureintro; rfl
        iexact H14
      isplitl [H15]
      · iexists f15; isplitr; · ipureintro; rfl
        iexact H15
      isplitl [H16]
      · iexists f16; isplitr; · ipureintro; rfl
        iexact H16
      isplitl [H17]
      · iexists f17; isplitr; · ipureintro; rfl
        iexact H17
      isplitl [H18]
      · iexists _; isplitr; swap; · iexact H18
        ipureintro
        exact result_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          rfl (load2 _ _) (load2 _ _) (load2 _ _) (load2 _ _) (load2 _ _) (load2 _ _) (load2 _ _)
      isplitl [H19]
      · iexists f19; isplitr; · ipureintro; rfl
        iexact H19
      iexists _; isplitr; swap; · iexact H20
      ipureintro
      exact memory_final (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        rfl (load2 _ _) (load2 _ _)

end Cert.KernelIdeal.Hand
-- ==== Proof.IReg1.lean ====
module

public import proofs.«01_k».proof.Proof.IBody1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Vals (F := F))

/-- Window `w`'s block at a point, of what its array holds at entry. -/
def blk1 (W : Vals (F := F)) (c : Dev nD) (w : Fin cfg1.W) (t : Fin cfg1.N) :
    ((cfg1.win w).xblock (cfg1.grid.coords t)).Idx → Elt F (cfg1.win w).elt :=
  ((cfg1.win w).blk t).view.read (Elt F) (W c (Pipeline.arrRef spec1 w))

/-- The memory a point leaves, and its result block, of the memory it finds. -/
def memBlk (W : Vals (F := F)) (c : Dev nD) (t : Fin cfg1.N) (h : Vec F S8x16x512 .f32) : Vec F S8x16x512 .f32 :=
  hAt (blk1 W c 0 t) (blk1 W c 3 t) (blk1 W c 6 t) (blk1 W c 7 t) (blk1 W c 8 t) h 16
def outBlk (W : Vals (F := F)) (c : Dev nD) (t : Fin cfg1.N) (h : Vec F S8x16x512 .f32) : Vec F S16x8x1024 .f32 :=
  oBlk
    (blk1 W c 0 t) (blk1 W c 1 t) (blk1 W c 2 t) (blk1 W c 3 t) (blk1 W c 4 t) (blk1 W c 5 t) (blk1 W c 6 t) (blk1 W c 7 t) (blk1 W c 8 t)
    (blk1 W c 9 t) (blk1 W c 10 t) (blk1 W c 11 t) (blk1 W c 12 t) (blk1 W c 13 t) (blk1 W c 14 t) (blk1 W c 15 t) (blk1 W c 16 t) h

/-- The memory before point `n`: nothing at first, then what the point before left. -/
def memAt (W : Vals (F := F)) (c : Dev nD) : ℕ → Vec F S8x16x512 .f32
  | 0 => k1_pay1 (F := F)
  | n + 1 => if hn : n < cfg1.N then memBlk W c ⟨n, hn⟩ (memAt W c n) else memAt W c n

theorem memAt_succ (c : Dev nD) (t : Fin cfg1.N) : memAt W c (t.val + 1) = memBlk W c t (memAt W c t.val) := by
  rw [memAt]; exact dif_pos t.isLt

/-- The carried memory's buffer. -/
abbrev mem1 : Memref sig .tc .vmem S8x16x512 .f32 := Memref.whole cc1_scratch0

/-- What a point finds apart from its blocks: the memory (anything before the first point), the rest of the scoped
    buffers and the generator's register. -/
def held1 (W : Vals (F := F)) (c : Dev nD) (n : ℕ) : sProp 𝕄 :=
  iprop((∃ d, ⌜n ≠ 0 → d = memAt W c n⌝ ∗ owns (c : Thread nD τ) mem1 fullShare d)
    ∗ Pipeline.scopedRestBut (Ix := Unit) (Name := ℕ) (U := UR sig nD τ) (Lvl := ℕ) (Val := Elt F) spec1 c [cc1_scratch0]
    ∗ ∃ r, prngReg c r)

/-- The second call's proof data. -/
def dat1 (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => blk1 W c 8 t
    | ⟨9, _⟩ => blk1 W c 9 t
    | ⟨10, _⟩ => blk1 W c 10 t
    | ⟨11, _⟩ => blk1 W c 11 t
    | ⟨12, _⟩ => blk1 W c 12 t
    | ⟨13, _⟩ => blk1 W c 13 t
    | ⟨14, _⟩ => blk1 W c 14 t
    | ⟨15, _⟩ => blk1 W c 15 t
    | ⟨16, _⟩ => blk1 W c 16 t
    | ⟨17, _⟩ => outBlk W c t (memAt W c t.val)
    | ⟨18, _⟩ => memBlk W c t (memAt W c t.val)
    | ⟨_ + 19, h⟩ => absurd h (Nat.not_lt.2 (Nat.le_add_left _ _))
  Φ t := held1 W c t.val
  q _ := fullShare
  owed _ := 0

theorem dat1_A (c : Dev nD) (w : Fin cfg1.W) : (dat1 W c).A w = W c (Pipeline.arrRef spec1 w) := by dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = blk1 W c 2 t := by dsimp only [dat1]
theorem after1_3 (c : Dev nD) (t : Fin cfg1.N) : (dat1 W c).after 3 t = blk1 W c 3 t := by dsimp only [dat1]
theorem after1_4 (c : Dev nD) (t : Fin cfg1.N) : (dat1 W c).after 4 t = blk1 W c 4 t := by dsimp only [dat1]
theorem after1_5 (c : Dev nD) (t : Fin cfg1.N) : (dat1 W c).after 5 t = blk1 W c 5 t := by dsimp only [dat1]
theorem after1_6 (c : Dev nD) (t : Fin cfg1.N) : (dat1 W c).after 6 t = blk1 W c 6 t := by dsimp only [dat1]
theorem after1_7 (c : Dev nD) (t : Fin cfg1.N) : (dat1 W c).after 7 t = blk1 W c 7 t := by dsimp only [dat1]
theorem after1_8 (c : Dev nD) (t : Fin cfg1.N) : (dat1 W c).after 8 t = blk1 W c 8 t := by dsimp only [dat1]
theorem after1_9 (c : Dev nD) (t : Fin cfg1.N) : (dat1 W c).after 9 t = blk1 W c 9 t := by dsimp only [dat1]
theorem after1_10 (c : Dev nD) (t : Fin cfg1.N) : (dat1 W c).after 10 t = blk1 W c 10 t := by dsimp only [dat1]
theorem after1_11 (c : Dev nD) (t : Fin cfg1.N) : (dat1 W c).after 11 t = blk1 W c 11 t := by dsimp only [dat1]
theorem after1_12 (c : Dev nD) (t : Fin cfg1.N) : (dat1 W c).after 12 t = blk1 W c 12 t := by dsimp only [dat1]
theorem after1_13 (c : Dev nD) (t : Fin cfg1.N) : (dat1 W c).after 13 t = blk1 W c 13 t := by dsimp only [dat1]
theorem after1_14 (c : Dev nD) (t : Fin cfg1.N) : (dat1 W c).after 14 t = blk1 W c 14 t := by dsimp only [dat1]
theorem after1_15 (c : Dev nD) (t : Fin cfg1.N) : (dat1 W c).after 15 t = blk1 W c 15 t := by dsimp only [dat1]
theorem after1_16 (c : Dev nD) (t : Fin cfg1.N) : (dat1 W c).after 16 t = blk1 W c 16 t := by dsimp only [dat1]
theorem after1_17 (c : Dev nD) (t : Fin cfg1.N) : (dat1 W c).after 17 t = outBlk W c t (memAt W c t.val) := by dsimp only [dat1]
theorem after1_18 (c : Dev nD) (t : Fin cfg1.N) : (dat1 W c).after 18 t = memBlk W c t (memAt W c t.val) := by dsimp only [dat1]
theorem before1_0 (c : Dev nD) (t : Fin cfg1.N) (d) : (dat1 W c).before 0 t d = blk1 W c 0 t :=
  ((dat1 W c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 W c).before 1 t d = blk1 W c 1 t :=
  ((dat1 W c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 W c).before 2 t d = blk1 W c 2 t :=
  ((dat1 W c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 W c).before 3 t d = blk1 W c 3 t :=
  ((dat1 W c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 W c).before 4 t d = blk1 W c 4 t :=
  ((dat1 W c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 W c).before 5 t d = blk1 W c 5 t :=
  ((dat1 W c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 W c).before 6 t d = blk1 W c 6 t :=
  ((dat1 W c).before_in_eq_fetched 6 rfl (fun _ => rfl) (fun _ _ _ => rfl)
    (fun t => by rw [after1_6]; unfold Dat.blockOf blk1; rw [dat1_A]; try rfl) t d).trans
    (by unfold Dat.fetched Dat.blockOf blk1; rw [dat1_A]; try rfl)
theorem before1_7 (c : Dev nD) (t : Fin cfg1.N) (d) : (dat1 W c).before 7 t d = blk1 W c 7 t :=
  ((dat1 W c).before_in_eq_fetched 7 rfl (fun _ => rfl) (fun _ _ _ => rfl)
    (fun t => by rw [after1_7]; unfold Dat.blockOf blk1; rw [dat1_A]; try rfl) t d).trans
    (by unfold Dat.fetched Dat.blockOf blk1; rw [dat1_A]; try rfl)
theorem before1_8 (c : Dev nD) (t : Fin cfg1.N) (d) : (dat1 W c).before 8 t d = blk1 W c 8 t :=
  ((dat1 W c).before_in_eq_fetched 8 rfl (fun _ => rfl) (fun _ _ _ => rfl)
    (fun t => by rw [after1_8]; unfold Dat.blockOf blk1; rw [dat1_A]; try rfl) t d).trans
    (by unfold Dat.fetched Dat.blockOf blk1; rw [dat1_A]; try rfl)
theorem before1_9 (c : Dev nD) (t : Fin cfg1.N) (d) : (dat1 W c).before 9 t d = blk1 W c 9 t :=
  ((dat1 W c).before_in_eq_fetched 9 rfl (fun _ => rfl) (fun _ _ _ => rfl)
    (fun t => by rw [after1_9]; unfold Dat.blockOf blk1; rw [dat1_A]; try rfl) t d).trans
    (by unfold Dat.fetched Dat.blockOf blk1; rw [dat1_A]; try rfl)
theorem before1_10 (c : Dev nD) (t : Fin cfg1.N) (d) : (dat1 W c).before 10 t d = blk1 W c 10 t :=
  ((dat1 W c).before_in_eq_fetched 10 rfl (fun _ => rfl) (fun _ _ _ => rfl)
    (fun t => by rw [after1_10]; unfold Dat.blockOf blk1; rw [dat1_A]; try rfl) t d).trans
    (by unfold Dat.fetched Dat.blockOf blk1; rw [dat1_A]; try rfl)
theorem before1_11 (c : Dev nD) (t : Fin cfg1.N) (d) : (dat1 W c).before 11 t d = blk1 W c 11 t :=
  ((dat1 W c).before_in_eq_fetched 11 rfl (fun _ => rfl) (fun _ _ _ => rfl)
    (fun t => by rw [after1_11]; unfold Dat.blockOf blk1; rw [dat1_A]; try rfl) t d).trans
    (by unfold Dat.fetched Dat.blockOf blk1; rw [dat1_A]; try rfl)
theorem before1_12 (c : Dev nD) (t : Fin cfg1.N) (d) : (dat1 W c).before 12 t d = blk1 W c 12 t :=
  ((dat1 W c).before_in_eq_fetched 12 rfl (fun _ => rfl) (fun _ _ _ => rfl)
    (fun t => by rw [after1_12]; unfold Dat.blockOf blk1; rw [dat1_A]; try rfl) t d).trans
    (by unfold Dat.fetched Dat.blockOf blk1; rw [dat1_A]; try rfl)
theorem before1_13 (c : Dev nD) (t : Fin cfg1.N) (d) : (dat1 W c).before 13 t d = blk1 W c 13 t :=
  ((dat1 W c).before_in_eq_fetched 13 rfl (fun _ => rfl) (fun _ _ _ => rfl)
    (fun t => by rw [after1_13]; unfold Dat.blockOf blk1; rw [dat1_A]; try rfl) t d).trans
    (by unfold Dat.fetched Dat.blockOf blk1; rw [dat1_A]; try rfl)
theorem before1_14 (c : Dev nD) (t : Fin cfg1.N) (d) : (dat1 W c).before 14 t d = blk1 W c 14 t :=
  ((dat1 W c).before_in_eq_fetched 14 rfl (fun _ => rfl) (fun _ _ _ => rfl)
    (fun t => by rw [after1_14]; unfold Dat.blockOf blk1; rw [dat1_A]; try rfl) t d).trans
    (by unfold Dat.fetched Dat.blockOf blk1; rw [dat1_A]; try rfl)
theorem before1_15 (c : Dev nD) (t : Fin cfg1.N) (d) : (dat1 W c).before 15 t d = blk1 W c 15 t :=
  ((dat1 W c).before_in_eq_fetched 15 rfl (fun _ => rfl) (fun _ _ _ => rfl)
    (fun t => by rw [after1_15]; unfold Dat.blockOf blk1; rw [dat1_A]; try rfl) t d).trans
    (by unfold Dat.fetched Dat.blockOf blk1; rw [dat1_A]; try rfl)
theorem before1_16 (c : Dev nD) (t : Fin cfg1.N) (d) : (dat1 W c).before 16 t d = blk1 W c 16 t :=
  ((dat1 W c).before_in_eq_fetched 16 rfl (fun _ => rfl) (fun _ _ _ => rfl)
    (fun t => by rw [after1_16]; unfold Dat.blockOf blk1; rw [dat1_A]; try rfl) t d).trans
    (by unfold Dat.fetched Dat.blockOf blk1; rw [dat1_A]; try rfl)

theorem idle18 : ∀ t : Fin cfg1.N, ¬ isLast (grid1.coords t) → cfg1.idle 18 (grid1.coords t) = true := by decide +kernel
theorem noflush18 : ∀ t : Fin cfg1.N, ¬ isLast (grid1.coords t) → (cfg1.win 18).flush t = false := by decide +kernel
theorem live18 : ∀ t : Fin cfg1.N, isLast (grid1.coords t) → cfg1.idle 18 (grid1.coords t) = false := by decide +kernel
theorem leaves1_0 (c : Dev nD) (t : Fin cfg1.N) : (dat1 W c).leavesExact 0 t =
    owns (c : Thread nD τ) (st1_0 t) fullShare (blk1 W c 0 t) := by
  unfold Dat.leavesExact; rw [show cfg1.idle 0 (grid1.coords t) = false from rfl, after1_0]; try rfl
theorem leaves1_1 (c : Dev nD) (t : Fin cfg1.N) : (dat1 W c).leavesExact 1 t =
    owns (c : Thread nD τ) (st1_1 t) fullShare (blk1 W c 1 t) := by
  unfold Dat.leavesExact; rw [show cfg1.idle 1 (grid1.coords t) = false from rfl, after1_1]; try rfl
theorem leaves1_2 (c : Dev nD) (t : Fin cfg1.N) : (dat1 W c).leavesExact 2 t =
    owns (c : Thread nD τ) (st1_2 t) fullShare (blk1 W c 2 t) := by
  unfold Dat.leavesExact; rw [show cfg1.idle 2 (grid1.coords t) = false from rfl, after1_2]; try rfl
theorem leaves1_3 (c : Dev nD) (t : Fin cfg1.N) : (dat1 W c).leavesExact 3 t =
    owns (c : Thread nD τ) (st1_3 t) fullShare (blk1 W c 3 t) := by
  unfold Dat.leavesExact; rw [show cfg1.idle 3 (grid1.coords t) = false from rfl, after1_3]; try rfl
theorem leaves1_4 (c : Dev nD) (t : Fin cfg1.N) : (dat1 W c).leavesExact 4 t =
    owns (c : Thread nD τ) (st1_4 t) fullShare (blk1 W c 4 t) := by
  unfold Dat.leavesExact; rw [show cfg1.idle 4 (grid1.coords t) = false from rfl, after1_4]; try rfl
theorem leaves1_5 (c : Dev nD) (t : Fin cfg1.N) : (dat1 W c).leavesExact 5 t =
    owns (c : Thread nD τ) (st1_5 t) fullShare (blk1 W c 5 t) := by
  unfold Dat.leavesExact; rw [show cfg1.idle 5 (grid1.coords t) = false from rfl, after1_5]; try rfl
theorem leaves1_6 (c : Dev nD) (t : Fin cfg1.N) : (dat1 W c).leavesExact 6 t =
    owns (c : Thread nD τ) (st1_6 t) fullShare (blk1 W c 6 t) := by
  unfold Dat.leavesExact; rw [show cfg1.idle 6 (grid1.coords t) = false from rfl, after1_6]; try rfl
theorem leaves1_7 (c : Dev nD) (t : Fin cfg1.N) : (dat1 W c).leavesExact 7 t =
    owns (c : Thread nD τ) (st1_7 t) fullShare (blk1 W c 7 t) := by
  unfold Dat.leavesExact; rw [show cfg1.idle 7 (grid1.coords t) = false from rfl, after1_7]; try rfl
theorem leaves1_8 (c : Dev nD) (t : Fin cfg1.N) : (dat1 W c).leavesExact 8 t =
    owns (c : Thread nD τ) (st1_8 t) fullShare (blk1 W c 8 t) := by
  unfold Dat.leavesExact; rw [show cfg1.idle 8 (grid1.coords t) = false from rfl, after1_8]; try rfl
theorem leaves1_9 (c : Dev nD) (t : Fin cfg1.N) : (dat1 W c).leavesExact 9 t =
    owns (c : Thread nD τ) (st1_9 t) fullShare (blk1 W c 9 t) := by
  unfold Dat.leavesExact; rw [show cfg1.idle 9 (grid1.coords t) = false from rfl, after1_9]; try rfl
theorem leaves1_10 (c : Dev nD) (t : Fin cfg1.N) : (dat1 W c).leavesExact 10 t =
    owns (c : Thread nD τ) (st1_10 t) fullShare (blk1 W c 10 t) := by
  unfold Dat.leavesExact; rw [show cfg1.idle 10 (grid1.coords t) = false from rfl, after1_10]; try rfl
theorem leaves1_11 (c : Dev nD) (t : Fin cfg1.N) : (dat1 W c).leavesExact 11 t =
    owns (c : Thread nD τ) (st1_11 t) fullShare (blk1 W c 11 t) := by
  unfold Dat.leavesExact; rw [show cfg1.idle 11 (grid1.coords t) = false from rfl, after1_11]; try rfl
theorem leaves1_12 (c : Dev nD) (t : Fin cfg1.N) : (dat1 W c).leavesExact 12 t =
    owns (c : Thread nD τ) (st1_12 t) fullShare (blk1 W c 12 t) := by
  unfold Dat.leavesExact; rw [show cfg1.idle 12 (grid1.coords t) = false from rfl, after1_12]; try rfl
theorem leaves1_13 (c : Dev nD) (t : Fin cfg1.N) : (dat1 W c).leavesExact 13 t =
    owns (c : Thread nD τ) (st1_13 t) fullShare (blk1 W c 13 t) := by
  unfold Dat.leavesExact; rw [show cfg1.idle 13 (grid1.coords t) = false from rfl, after1_13]; try rfl
theorem leaves1_14 (c : Dev nD) (t : Fin cfg1.N) : (dat1 W c).leavesExact 14 t =
    owns (c : Thread nD τ) (st1_14 t) fullShare (blk1 W c 14 t) := by
  unfold Dat.leavesExact; rw [show cfg1.idle 14 (grid1.coords t) = false from rfl, after1_14]; try rfl
theorem leaves1_15 (c : Dev nD) (t : Fin cfg1.N) : (dat1 W c).leavesExact 15 t =
    owns (c : Thread nD τ) (st1_15 t) fullShare (blk1 W c 15 t) := by
  unfold Dat.leavesExact; rw [show cfg1.idle 15 (grid1.coords t) = false from rfl, after1_15]; try rfl
theorem leaves1_16 (c : Dev nD) (t : Fin cfg1.N) : (dat1 W c).leavesExact 16 t =
    owns (c : Thread nD τ) (st1_16 t) fullShare (blk1 W c 16 t) := by
  unfold Dat.leavesExact; rw [show cfg1.idle 16 (grid1.coords t) = false from rfl, after1_16]; try rfl
theorem leaves1_17 (c : Dev nD) (t : Fin cfg1.N) : (dat1 W c).leavesExact 17 t =
    owns (c : Thread nD τ) (st1_17 t) fullShare (outBlk W c t (memAt W c t.val)) := by
  unfold Dat.leavesExact; rw [show cfg1.idle 17 (grid1.coords t) = false from rfl, after1_17]; try rfl

theorem leaves1_18_last (c : Dev nD) (t : Fin cfg1.N) (h : isLast (grid1.coords t)) : (dat1 W c).leavesExact 18 t =
    owns (c : Thread nD τ) (st1_18 t) fullShare (memBlk W c t (memAt W c t.val)) := by
  unfold Dat.leavesExact; rw [show cfg1.idle 18 (grid1.coords t) = false from live18 t h, after1_18]; try rfl

/-- The memory a point's steps start from is the one carried to it. -/
theorem start_eq (c : Dev nD) (t : Fin cfg1.N) (d : Vec F S8x16x512 .f32) (h : t.val ≠ 0 → d = memAt W c t.val) :
    startAt (grid1.coords t) d = memAt W c t.val := by
  unfold startAt
  by_cases hf : isFirst (grid1.coords t)
  · rw [if_pos hf, (isFirst_iff t).1 hf]; rfl
  · rw [if_neg hf]; exact h fun e => hf ((isFirst_iff t).2 e)

/-- What the body starts a point with. -/
def pre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d))
    ∗ (∃ d, owns (c : Thread nD τ) (st1_9 t) fullShare ((dat1 W c).before 9 t d))
    ∗ (∃ d, owns (c : Thread nD τ) (st1_10 t) fullShare ((dat1 W c).before 10 t d))
    ∗ (∃ d, owns (c : Thread nD τ) (st1_11 t) fullShare ((dat1 W c).before 11 t d))
    ∗ (∃ d, owns (c : Thread nD τ) (st1_12 t) fullShare ((dat1 W c).before 12 t d))
    ∗ (∃ d, owns (c : Thread nD τ) (st1_13 t) fullShare ((dat1 W c).before 13 t d))
    ∗ (∃ d, owns (c : Thread nD τ) (st1_14 t) fullShare ((dat1 W c).before 14 t d))
    ∗ (∃ d, owns (c : Thread nD τ) (st1_15 t) fullShare ((dat1 W c).before 15 t d))
    ∗ (∃ d, owns (c : Thread nD τ) (st1_16 t) fullShare ((dat1 W c).before 16 t d))
    ∗ (∃ d, owns (c : Thread nD τ) (st1_17 t) fullShare ((dat1 W c).before 17 t d))
    ∗ (∃ d, owns (c : Thread nD τ) (st1_18 t) fullShare ((dat1 W c).before 18 t d)))

/-- What it ends it with. -/
def post1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t
    ∗ (dat1 W c).leavesExact 7 t
    ∗ (dat1 W c).leavesExact 8 t
    ∗ (dat1 W c).leavesExact 9 t
    ∗ (dat1 W c).leavesExact 10 t
    ∗ (dat1 W c).leavesExact 11 t
    ∗ (dat1 W c).leavesExact 12 t
    ∗ (dat1 W c).leavesExact 13 t
    ∗ (dat1 W c).leavesExact 14 t
    ∗ (dat1 W c).leavesExact 15 t
    ∗ (dat1 W c).leavesExact 16 t
    ∗ (dat1 W c).leavesExact 17 t
    ∗ (dat1 W c).leavesExact 18 t)

set_option maxHeartbeats 2000000 in
theorem sound1 (c : Dev nD) (t : Fin cfg1.N) :
    pre1 W c t ⊢ wp frame (wpE (defs₀ (F := F)) Variants.none c none) Set.univ (bodyAt1 t) (fun _ => post1 W c t) := by
  unfold pre1 post1 bodyAt1
  simp only [
    before1_0, before1_1, before1_2, before1_3, before1_4, before1_5, before1_6, before1_7, before1_8, before1_9, before1_10, before1_11, before1_12,
    before1_13, before1_14, before1_15, before1_16]
  rw [show (dat1 W c).owesAt () t.succ = (dat1 W c).owesAt () t.castSucc from rfl,
    show (dat1 W c).Φ t.castSucc = held1 W c t.val from rfl, show (dat1 W c).Φ t.succ = held1 W c (t.val + 1) from rfl,
    leaves1_0, leaves1_1, leaves1_2, leaves1_3, leaves1_4, leaves1_5, leaves1_6, leaves1_7, leaves1_8, leaves1_9, leaves1_10, leaves1_11, leaves1_12,
    leaves1_13, leaves1_14, leaves1_15, leaves1_16, leaves1_17]
  unfold held1
  iintro ⟨⟨⟨%d, %hd, HS⟩, HR, HG⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩,
    ⟨%d12, H12⟩, ⟨%d13, H13⟩, ⟨%d14, H14⟩, ⟨%d15, H15⟩, ⟨%d16, H16⟩, ⟨%d17, H17⟩, ⟨%d18, H18⟩⟩
  iapply (body1_run c Set.univ (grid1.coords t)
    _ _ _ _ _ _ _ _ _ _ _ _ _ _ _ _ _ _ _ _ _ _ _ _ _ _ _ _ _ _ _ _ _ _ _ _ _ _ _ _
    (blk1 W c 0 t) (blk1 W c 1 t) (blk1 W c 2 t) (blk1 W c 3 t) (blk1 W c 4 t) (blk1 W c 5 t) (blk1 W c 6 t) (blk1 W c 7 t) (blk1 W c 8 t)
    (blk1 W c 9 t) (blk1 W c 10 t) (blk1 W c 11 t) (blk1 W c 12 t) (blk1 W c 13 t) (blk1 W c 14 t) (blk1 W c 15 t) (blk1 W c 16 t)
    ((dat1 W c).before 18 t d18) d _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexact H18
  isplitl [HS]; · iexact HS
  rw [start_eq W c t d hd]
  iintro ⟨K0, K1, K2, K3, K4, K5, K6, K7, K8, K9, K10, K11, K12, K13, K14, K15, K16, K17, K18, KS⟩
  isplitl [KS HR HG]
  · isplitl [KS]
    · iexists _; isplitr; swap; · iexact KS
      ipureintro; exact fun _ => (memAt_succ W c t).symm
    isplitl [HR]; · iexact HR
    iexact HG
  isplitl [Ho]; · iexact Ho
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [K14]; · iexact K14
  isplitl [K15]; · iexact K15
  isplitl [K16]; · iexact K16
  isplitl [K17]; · iexact K17
  by_cases hl : isLast (grid1.coords t)
  · rw [leaves1_18_last W c t hl, if_pos hl]; iexact K18
  · rw [Dat.leavesExact_idle (dat1 W c) 18 t (idle18 t hl) (noflush18 t hl), if_neg hl]; iexists _; iexact K18

theorem row1 (t : Fin cfg1.N) :
    defs₀ (F := F) .tc cfg1.body (cfg1.bodyArgs t (cfg1.slots t)) = bodyAt1 t := by
  unfold defs₀; rw [Defs.onTc_tc]

set_option maxHeartbeats 1000000 in
theorem obligation1 (c : Dev nD) : BodyObligation (dat1 (F := F) W c) (defs₀ (F := F)) Variants.none () Set.univ := fun t => by
  rw [bigSep_W1, bigSep_W1, row1]
  exact triple_restated (sound1 W c t) rfl .rfl fun _ => .rfl

end Cert.KernelIdeal.Hand
-- ==== Proof.IRun.lean ====
module

public import proofs.«01_k».proof.Proof.IBody0
public import proofs.«01_k».proof.Proof.IReg1
public import proofs.«01_k».proof.Proof.Gen.KernelIdeal.Regions

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first call finds. -/
abbrev in0 (m : (ℓ : Loc nD τ sig) → Buf (Elt F) ℓ) : Vals (F := F) := fun c b => V1 m c b

/-- The buffers after the first call: its five results at what its points left. -/
def left0 (c : Dev nD) : Valuation τ sig (Elt F) :=
  Function.update (Function.update (Function.update (Function.update (Function.update (V1 m c)
    main_v59_0 ((dat0 (in0 m) c).arrAt 19 cfg0.N))
    main_v59_1 ((dat0 (in0 m) c).arrAt 20 cfg0.N))
    main_v59_2 ((dat0 (in0 m) c).arrAt 21 cfg0.N))
    main_v59_3 ((dat0 (in0 m) c).arrAt 22 cfg0.N))
    main_v59_4 ((dat0 (in0 m) c).arrAt 23 cfg0.N)

def outs0 : Outs (F := F) := fun _ r c => left0 m c r

/-- What the second call finds. -/
abbrev in1 (m : (ℓ : Loc nD τ sig) → Buf (Elt F) ℓ) : Vals (F := F) := fun c b => V3 m (outs0 m) c b

/-- The buffers after the second call. -/
def left1 (c : Dev nD) : Valuation τ sig (Elt F) :=
  Function.update (Function.update (V3 m (outs0 m) c)
    main_v66_0 ((dat1 (in1 m) c).arrAt 17 cfg1.N))
    main_v66_1 ((dat1 (in1 m) c).arrAt 18 cfg1.N)

/-- What the two calls leave. -/
def outs : Outs (F := F) := fun k r c => if k = 2 then outs0 m k r c else left1 m c r

theorem outs_first (r : Ref sig .tc) (c : Dev nD) : outs m 2 r c = left0 m c r := if_pos rfl
theorem outs_second (r : Ref sig .tc) (c : Dev nD) : outs m 4 r c = left1 m c r := if_neg (by decide)

theorem ne_dev {a b : Ref sig .tc} (h : a ≠ b) : (a : DevRef τ sig) ≠ (b : DevRef τ sig) := StableHlo.devRef_ne_of_ne h

theorem left0_0 (c : Dev nD) : left0 m c main_v59_0 = (dat0 (in0 m) c).arrAt 19 cfg0.N := by
  unfold left0
  rw [Function.update_of_ne (ne_dev (by decide))]
  rw [Function.update_of_ne (ne_dev (by decide))]
  rw [Function.update_of_ne (ne_dev (by decide))]
  rw [Function.update_of_ne (ne_dev (by decide))]
  rw [Function.update_self]
theorem left0_1 (c : Dev nD) : left0 m c main_v59_1 = (dat0 (in0 m) c).arrAt 20 cfg0.N := by
  unfold left0
  rw [Function.update_of_ne (ne_dev (by decide))]
  rw [Function.update_of_ne (ne_dev (by decide))]
  rw [Function.update_of_ne (ne_dev (by decide))]
  rw [Function.update_self]
theorem left0_2 (c : Dev nD) : left0 m c main_v59_2 = (dat0 (in0 m) c).arrAt 21 cfg0.N := by
  unfold left0
  rw [Function.update_of_ne (ne_dev (by decide))]
  rw [Function.update_of_ne (ne_dev (by decide))]
  rw [Function.update_self]
theorem left0_3 (c : Dev nD) : left0 m c main_v59_3 = (dat0 (in0 m) c).arrAt 22 cfg0.N := by
  unfold left0
  rw [Function.update_of_ne (ne_dev (by decide))]
  rw [Function.update_self]
theorem left0_4 (c : Dev nD) : left0 m c main_v59_4 = (dat0 (in0 m) c).arrAt 23 cfg0.N := by
  unfold left0
  rw [Function.update_self]
theorem left1_0 (c : Dev nD) : left1 m c main_v66_0 = (dat1 (in1 m) c).arrAt 17 cfg1.N := by
  unfold left1
  rw [Function.update_of_ne (ne_dev (by decide))]
  rw [Function.update_self]
theorem left1_1 (c : Dev nD) : left1 m c main_v66_1 = (dat1 (in1 m) c).arrAt 18 cfg1.N := by
  unfold left1
  rw [Function.update_self]

theorem after_first (c : Dev nD) : V2 m (outs m) c = V2 m (outs0 m) c := by
  simp only [V2, outs_first, outs0]

/-- The second call finds the same whatever it leaves itself. -/
theorem before_second (c : Dev nD) : V3 m (outs m) c = V3 m (outs0 m) c := by
  unfold V3; rw [after_first]

/-- The two calls' proof data. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c
  | ⟨_ + 2, h⟩ => absurd h (Nat.not_lt.2 (Nat.le_add_left _ _))

/-- What rides beside the buffers: the generator's register, and nothing owed. -/
def beside : Fin 3 → Dev nD → sProp 𝕄 :=
  fun _ c => iprop((∃ r, prngReg c r) ∗ ∃ B, owes (c : Thread nD τ) (0 : CellTallies nD τ sig Unit) B)

abbrev noLevels : GSem nD τ sig → Finset Unit := fun _ => ∅
abbrev level0 : GSem nD τ sig → Unit → ℕ := fun _ _ => 0

/-- The buffers after the first call, window by window. -/
theorem exit0 (c : Dev nD) (w : Fin cfg0.W) :
    (dat0 (in0 m) c).arrAt w cfg0.N = V2 m (outs m) c (Pipeline.arrRef spec0 w) := by
  by_cases hw : w.val < 19
  · have hin : (cfg0.win w).isOut = false :=
      (by decide +kernel : ∀ w : Fin cfg0.W, w.val < 19 → (cfg0.win w).isOut = false) w hw
    have hne : Pipeline.arrRef spec0 w ∉ ([main_v59_0, main_v59_1, main_v59_2, main_v59_3, main_v59_4] : List (Ref sig .tc)) :=
      (by decide +kernel : ∀ w : Fin cfg0.W, w.val < 19 → Pipeline.arrRef spec0 w ∉ ([main_v59_0, main_v59_1, main_v59_2, main_v59_3, main_v59_4] : List (Ref sig .tc))) w hw
    exact ((dat0 (in0 m) c).arrAt_in w hin _).trans ((dat0_A (in0 m) c w).trans (V2_of m (outs m) c _ hne).symm)
  · obtain ⟨k, hk⟩ := w
    have hk' : k = 19 ∨ k = 20 ∨ k = 21 ∨ k = 22 ∨ k = 23 := by
      have : k < 24 := hk
      simp only at hw
      omega
    rw [after_first]
    rcases hk' with rfl | rfl | rfl | rfl | rfl
    · refine (left0_0 m c).symm.trans ?_
      show _ = V2 m (outs0 m) c main_v59_0
      unfold V2
      rw [Function.update_of_ne (ne_dev (by decide))]
      rw [Function.update_of_ne (ne_dev (by decide))]
      rw [Function.update_of_ne (ne_dev (by decide))]
      rw [Function.update_of_ne (ne_dev (by decide))]
      rw [Function.update_self]
      rfl
    · refine (left0_1 m c).symm.trans ?_
      show _ = V2 m (outs0 m) c main_v59_1
      unfold V2
      rw [Function.update_of_ne (ne_dev (by decide))]
      rw [Function.update_of_ne (ne_dev (by decide))]
      rw [Function.update_of_ne (ne_dev (by decide))]
      rw [Function.update_self]
      rfl
    · refine (left0_2 m c).symm.trans ?_
      show _ = V2 m (outs0 m) c main_v59_2
      unfold V2
      rw [Function.update_of_ne (ne_dev (by decide))]
      rw [Function.update_of_ne (ne_dev (by decide))]
      rw [Function.update_self]
      rfl
    · refine (left0_3 m c).symm.trans ?_
      show _ = V2 m (outs0 m) c main_v59_3
      unfold V2
      rw [Function.update_of_ne (ne_dev (by decide))]
      rw [Function.update_self]
      rfl
    · refine (left0_4 m c).symm.trans ?_
      show _ = V2 m (outs0 m) c main_v59_4
      unfold V2
      rw [Function.update_self]
      rfl

/-- The buffers after the second call, window by window. -/
theorem exit1 (c : Dev nD) (w : Fin cfg1.W) :
    (dat1 (in1 m) c).arrAt w cfg1.N = V4 m (outs m) c (Pipeline.arrRef spec1 w) := by
  by_cases hw : w.val < 17
  · have hin : (cfg1.win w).isOut = false :=
      (by decide +kernel : ∀ w : Fin cfg1.W, w.val < 17 → (cfg1.win w).isOut = false) w hw
    have hne : Pipeline.arrRef spec1 w ∉ ([main_v66_0, main_v66_1] : List (Ref sig .tc)) :=
      (by decide +kernel : ∀ w : Fin cfg1.W, w.val < 17 → Pipeline.arrRef spec1 w ∉ ([main_v66_0, main_v66_1] : List (Ref sig .tc))) w hw
    exact ((dat1 (in1 m) c).arrAt_in w hin _).trans ((dat1_A (in1 m) c w).trans
      ((V4_of m (outs m) c _ hne).trans (congrFun (before_second m c) _)).symm)
  · obtain ⟨k, hk⟩ := w
    have hk' : k = 17 ∨ k = 18 := by
      have : k < 19 := hk
      simp only at hw
      omega
    rcases hk' with rfl | rfl
    · refine (left1_0 m c).symm.trans ?_
      show _ = V4 m (outs m) c main_v66_0
      unfold V4
      rw [Function.update_of_ne (ne_dev (by decide))]
      rw [Function.update_self]
      exact (outs_second m _ c).symm
    · refine (left1_1 m c).symm.trans ?_
      show _ = V4 m (outs m) c main_v66_1
      unfold V4
      rw [Function.update_self]
      exact (outs_second m _ c).symm

set_option backward.isDefEq.respectTransparency.types false in
/-- Call 0 between the host stretches. -/
def reg0 : RegionSeg (pcfgs (F := F)) adm (pdats m) () defs₀ Variants.none noLevels level0 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels level0 0 fun _ _ => rfl
  pre c := iprop(StableHlo.held (c : Thread nD τ) (Pipeline.ucRefs τ sig) (V1 m c) ∗ beside 0 c)
  post c := iprop(StableHlo.held (c : Thread nD τ) (Pipeline.ucRefs τ sig) (V2 m (outs m) c) ∗ beside 1 c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) (fun w => dat0_A (in0 m) c w)
    unfold beside
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, HO⟩; iexists B; isplitr; · ipureintro; exact fun _ _ => Or.inl trivial
      iexact HO
    isplitl [Hr]; · iexact Hr
    iexact Hrest
  hin c := by
    rw [show (pdats m 0 c).Φ 0 = Pipeline.ΦA spec0 c from rfl]
    unfold Pipeline.ΦA
    iintro ⟨Hr, -, Hs⟩
    isplitl [Hs]; · iexact Hs
    iexact Hr
  hout c := by
    rw [Pipeline.ownSems0_none, show (pdats m 0 c).Φ (Fin.last _) = Pipeline.ΦA spec0 c from rfl]
    unfold Pipeline.ΦA
    iintro ⟨Hs, Hr⟩
    isplitl [Hr]; · iexact Hr
    isplitr; · iempintro
    iexact Hs
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m (outs m) c b) ((pdats m 0 c).arrAt · cfg0.N)
      (fun w => exit0 m c w)
      (fun b hb => V2_of m (outs m) c b fun h => hb
        ((by decide +kernel : ∀ b : Ref sig .tc, b ∈ ([main_v59_0, main_v59_1, main_v59_2, main_v59_3, main_v59_4] : List (Ref sig .tc)) → b ∈ Finset.univ.image (Pipeline.arrRef spec0)) b h))
    rw [← Pipeline.unscopedBufs_held (Ix := Unit) (Name := ℕ) (U := UR sig nD τ) (Lvl := ℕ) c (V2 m (outs m) c)]
    unfold beside
    iintro ⟨Ha, HO, Hr, Hrest⟩
    imodintro
    isplitl [Ha Hrest]
    · iapply hjoin; isplitl [Ha] <;> iassumption
    isplitl [Hr]; · iexact Hr
    unfold Pipeline.Dat.owesAt Pipeline.owesWithin
    icases HO with ⟨%B, -, HO⟩; iexists B; iexact HO

set_option backward.isDefEq.respectTransparency.types false in
/-- Call 1 between the host stretches. -/
def reg1 : RegionSeg (pcfgs (F := F)) adm (pdats m) () defs₀ Variants.none noLevels level0 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ noLevels level0 1 fun _ _ => rfl
  pre c := iprop(StableHlo.held (c : Thread nD τ) (Pipeline.ucRefs τ sig) (V3 m (outs m) c) ∗ beside 1 c)
  post c := iprop(StableHlo.held (c : Thread nD τ) (Pipeline.ucRefs τ sig) (V4 m (outs m) c) ∗ beside 2 c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none, ← Pipeline.unscopedBufs_held (Ix := Unit) (Name := ℕ) (U := UR sig nD τ) (Lvl := ℕ) c (V3 m (outs m) c)]
    have hsplit := Pipeline.arrays_of_unscopedBufs (p := 1) (pcfgs (F := F)) adm (pdats m) launch1.win launch1.arr_whole c
      ((pdats m 1 c).share_full fun _ => rfl) (fun b => V3 m (outs m) c b) (fun w => (dat1_A (in1 m) c w).trans (congrFun (before_second m c) _).symm)
    unfold beside
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%B, HO⟩; iexists B; isplitr; · ipureintro; exact fun _ _ => Or.inl trivial
      iexact HO
    isplitl [Hr]; · iexact Hr
    iexact Hrest
  hin c := by
    rw [show (pdats m 1 c).Φ 0 = held1 (in1 m) c 0 from rfl]
    unfold held1
    simp only [owns_whole]
    rw [show (Pipeline.scopedRest (Pipeline.pin (pcfgs (F := F)) adm 1).spec c : sProp 𝕄) = _ from scopedRest1_split c]
    iintro ⟨Hr, -, ⟨%f, Hf⟩, Hs⟩
    isplitl [Hf]
    · iexists f; isplitr; · ipureintro; exact fun h => absurd rfl h
      iexact Hf
    isplitl [Hs]; · iexact Hs
    iexact Hr
  hout c := by
    rw [Pipeline.ownSems0_none, show (pdats m 1 c).Φ (Fin.last _) = held1 (in1 m) c cfg1.N from rfl]
    unfold held1
    simp only [owns_whole]
    rw [show (Pipeline.scopedRest (Pipeline.pin (pcfgs (F := F)) adm 1).spec c : sProp 𝕄) = _ from scopedRest1_split c]
    iintro ⟨⟨%f, -, Hf⟩, Hs, Hr⟩
    isplitl [Hr]; · iexact Hr
    isplitr; · iempintro
    isplitl [Hf]; · iexists f; iexact Hf
    iexact Hs
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V3 m (outs m) c b) (fun b => V4 m (outs m) c b) ((pdats m 1 c).arrAt · cfg1.N)
      (fun w => exit1 m c w)
      (fun b hb => V4_of m (outs m) c b fun h => hb
        ((by decide +kernel : ∀ b : Ref sig .tc, b ∈ ([main_v66_0, main_v66_1] : List (Ref sig .tc)) → b ∈ Finset.univ.image (Pipeline.arrRef spec1)) b h))
    rw [← Pipeline.unscopedBufs_held (Ix := Unit) (Name := ℕ) (U := UR sig nD τ) (Lvl := ℕ) c (V4 m (outs m) c)]
    unfold beside
    iintro ⟨Ha, HO, Hr, Hrest⟩
    imodintro
    isplitl [Ha Hrest]
    · iapply hjoin; isplitl [Ha] <;> iassumption
    isplitl [Hr]; · iexact Hr
    unfold Pipeline.Dat.owesAt Pipeline.owesWithin
    icases HO with ⟨%B, -, HO⟩; iexists B; iexact HO

set_option backward.isDefEq.respectTransparency.types false in
/-- Every run of the kernel ends, with every buffer at what the last host stretch leaves. -/
theorem run_main : θ_run (defs (F := F)) (onTc (τ := τ) (main (F := F))) ⟨m, fun _ => 0, ρ⟩ (fun r =>
    (∀ c : Dev nD, ∀ b ∈ Pipeline.ucRefs τ sig, r.2.mem (c, b) = V5 m (outs m) c b) ∧ r.2.sem = fun _ => 0) := by
  refine Pipeline.θ_run_regions_kit_dev_sems (pcfgs (F := F)) adm (pdats m) () cellOf_inj
    (emb₁ : Emb (UR sig nD τ) 𝕄) defs₀ Variants.none noLevels level0 m ρ main
    (segs m (outs m) Variants.none noLevels level0 beside () (pdats m) (reg0 m) (reg1 m))
    (fun c Q => by
      rewrite [main_chain c, Seg.run_eq_chain,
        show (segs m (outs m) Variants.none noLevels level0 beside () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own ((emb₁ : Emb (UR sig nD τ) 𝕄) (initOf (Pipeline.cells cfgs cellOf_inj) (Pipeline.launchToks cfgs cellOf_inj)))
          from BI.Entails.refl _)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside 0 c))
    (Tₙ := fun c => iprop(StableHlo.held (c : Thread nD τ) (Pipeline.ucRefs τ sig) (V5 m (outs m) c)))
    (hch := fun c => ⟨.rfl, .rfl, .rfl, .rfl, .rfl, sep_mono .rfl (by unfold beside; iintro ⟨-, H⟩; iexact H)⟩)
    (hinit := by
      refine Pipeline.initEach noLevels level0 fun c => ?_
      rw [show unscopedBufs c (fun b => m ((c : Thread nD τ).loc b)) = StableHlo.held (c : Thread nD τ) (Pipeline.ucRefs τ sig) (V0 m c)
        from Pipeline.unscopedBufs_held (Ix := Unit) (Name := ℕ) (U := UR sig nD τ) (Lvl := ℕ) c (V0 m c)]
      unfold beside
      iintro ⟨⟨Hh, -, HO, -, Hr, -⟩, -⟩
      imodintro
      isplitl [Hh]; · iexact Hh
      isplitl [Hr]; · iexists _; iexact Hr
      iexists ∅; iexact HO)
    (QY := fun c s => ∀ b ∈ Pipeline.ucRefs τ sig, s.mem (c, b) = V5 m (outs m) c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact h
  · iexact HSI

theorem mem_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The kernel's arguments are left as they were, and every counter is at zero. -/
theorem frame_main : θ_run (defs (F := F)) (onTc (τ := τ) (main (F := F))) ⟨m, fun _ => 0, ρ⟩ (fun r =>
    (∀ c : Dev nD,
      r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5) ∧
      r.2.mem ((c : Thread nD τ).loc main_arg6) = m ((c : Thread nD τ).loc main_arg6) ∧
      r.2.mem ((c : Thread nD τ).loc main_arg7) = m ((c : Thread nD τ).loc main_arg7) ∧
      r.2.mem ((c : Thread nD τ).loc main_arg8) = m ((c : Thread nD τ).loc main_arg8) ∧
      r.2.mem ((c : Thread nD τ).loc main_arg9) = m ((c : Thread nD τ).loc main_arg9) ∧
      r.2.mem ((c : Thread nD τ).loc main_arg10) = m ((c : Thread nD τ).loc main_arg10) ∧
      r.2.mem ((c : Thread nD τ).loc main_arg11) = m ((c : Thread nD τ).loc main_arg11) ∧
      r.2.mem ((c : Thread nD τ).loc main_arg12) = m ((c : Thread nD τ).loc main_arg12) ∧
      r.2.mem ((c : Thread nD τ).loc main_arg13) = m ((c : Thread nD τ).loc main_arg13) ∧
      r.2.mem ((c : Thread nD τ).loc main_arg14) = m ((c : Thread nD τ).loc main_arg14) ∧
      r.2.mem ((c : Thread nD τ).loc main_arg15) = m ((c : Thread nD τ).loc main_arg15) ∧
      r.2.mem ((c : Thread nD τ).loc main_arg16) = m ((c : Thread nD τ).loc main_arg16) ∧
      r.2.mem ((c : Thread nD τ).loc main_arg17) = m ((c : Thread nD τ).loc main_arg17) ∧
      r.2.mem ((c : Thread nD τ).loc main_arg18) = m ((c : Thread nD τ).loc main_arg18) ∧
      r.2.mem ((c : Thread nD τ).loc main_arg19) = m ((c : Thread nD τ).loc main_arg19)) ∧
    r.2.sem = fun _ => 0) := by
  refine θ_run_mono (run_main m ρ) ?_
  rintro r ⟨h, hz⟩
  refine ⟨fun c => ⟨(h c main_arg0 (mem_uc main_arg0 (by decide))).trans (V5_main_arg0 m (outs m) c),
    (h c main_arg1 (mem_uc main_arg1 (by decide))).trans (V5_main_arg1 m (outs m) c),
    (h c main_arg2 (mem_uc main_arg2 (by decide))).trans (V5_main_arg2 m (outs m) c),
    (h c main_arg3 (mem_uc main_arg3 (by decide))).trans (V5_main_arg3 m (outs m) c),
    (h c main_arg4 (mem_uc main_arg4 (by decide))).trans (V5_main_arg4 m (outs m) c),
    (h c main_arg5 (mem_uc main_arg5 (by decide))).trans (V5_main_arg5 m (outs m) c),
    (h c main_arg6 (mem_uc main_arg6 (by decide))).trans (V5_main_arg6 m (outs m) c),
    (h c main_arg7 (mem_uc main_arg7 (by decide))).trans (V5_main_arg7 m (outs m) c),
    (h c main_arg8 (mem_uc main_arg8 (by decide))).trans (V5_main_arg8 m (outs m) c),
    (h c main_arg9 (mem_uc main_arg9 (by decide))).trans (V5_main_arg9 m (outs m) c),
    (h c main_arg10 (mem_uc main_arg10 (by decide))).trans (V5_main_arg10 m (outs m) c),
    (h c main_arg11 (mem_uc main_arg11 (by decide))).trans (V5_main_arg11 m (outs m) c),
    (h c main_arg12 (mem_uc main_arg12 (by decide))).trans (V5_main_arg12 m (outs m) c),
    (h c main_arg13 (mem_uc main_arg13 (by decide))).trans (V5_main_arg13 m (outs m) c),
    (h c main_arg14 (mem_uc main_arg14 (by decide))).trans (V5_main_arg14 m (outs m) c),
    (h c main_arg15 (mem_uc main_arg15 (by decide))).trans (V5_main_arg15 m (outs m) c),
    (h c main_arg16 (mem_uc main_arg16 (by decide))).trans (V5_main_arg16 m (outs m) c),
    (h c main_arg17 (mem_uc main_arg17 (by decide))).trans (V5_main_arg17 m (outs m) c),
    (h c main_arg18 (mem_uc main_arg18 (by decide))).trans (V5_main_arg18 m (outs m) c),
    (h c main_arg19 (mem_uc main_arg19 (by decide))).trans (V5_main_arg19 m (outs m) c)⟩, hz⟩

end Cert.KernelIdeal.Hand

end
-- ==== Proof.KBlocks1.lean ====
module

public import proofs.«01_k».proof.Proof.IRun
public import Idealize.ShloMosaic.Lib.Pointwise
public import Idealize.ShloMosaic.Lib.Pipeline.ValueKit

/-! What the blocks of call 2's windows hold, at an index. -/

@[expose] public section

set_option maxRecDepth 16384

noncomputable section

namespace Cert.KernelIdeal.Hand

open Idealize.ShloMosaic Idealize.ShloMosaic.TcCoe
open Cert.KernelIdeal Cert.KernelIdeal.Gen

theorem place1_0 : ∀ t : Fin cfg1.N, win1_0.index t = ![t.val, 0, 0] :=
  (by decide +kernel : ∀ t : Fin grid1.N, _)
theorem place1_1 : ∀ t : Fin cfg1.N, win1_1.index t = ![t.val, 0, 0] :=
  (by decide +kernel : ∀ t : Fin grid1.N, _)
theorem place1_2 : ∀ t : Fin cfg1.N, win1_2.index t = ![t.val, 0, 0] :=
  (by decide +kernel : ∀ t : Fin grid1.N, _)
theorem place1_3 : ∀ t : Fin cfg1.N, win1_3.index t = ![t.val, 0, 0] :=
  (by decide +kernel : ∀ t : Fin grid1.N, _)
theorem place1_4 : ∀ t : Fin cfg1.N, win1_4.index t = ![t.val, 0, 0] :=
  (by decide +kernel : ∀ t : Fin grid1.N, _)
theorem place1_5 : ∀ t : Fin cfg1.N, win1_5.index t = ![t.val, 0, 0] :=
  (by decide +kernel : ∀ t : Fin grid1.N, _)
theorem place1_6 : ∀ t : Fin cfg1.N, win1_6.index t = ![0, 0] :=
  (by decide +kernel : ∀ t : Fin grid1.N, _)
theorem place1_7 : ∀ t : Fin cfg1.N, win1_7.index t = ![0, 0] :=
  (by decide +kernel : ∀ t : Fin grid1.N, _)
theorem place1_8 : ∀ t : Fin cfg1.N, win1_8.index t = ![0, 0] :=
  (by decide +kernel : ∀ t : Fin grid1.N, _)
theorem place1_9 : ∀ t : Fin cfg1.N, win1_9.index t = ![0, 0] :=
  (by decide +kernel : ∀ t : Fin grid1.N, _)
theorem place1_10 : ∀ t : Fin cfg1.N, win1_10.index t = ![0, 0] :=
  (by decide +kernel : ∀ t : Fin grid1.N, _)
theorem place1_11 : ∀ t : Fin cfg1.N, win1_11.index t = ![0, 0] :=
  (by decide +kernel : ∀ t : Fin grid1.N, _)
theorem place1_12 : ∀ t : Fin cfg1.N, win1_12.index t = ![0, 0] :=
  (by decide +kernel : ∀ t : Fin grid1.N, _)
theorem place1_13 : ∀ t : Fin cfg1.N, win1_13.index t = ![0, 0] :=
  (by decide +kernel : ∀ t : Fin grid1.N, _)
theorem place1_14 : ∀ t : Fin cfg1.N, win1_14.index t = ![0, 0] :=
  (by decide +kernel : ∀ t : Fin grid1.N, _)
theorem place1_15 : ∀ t : Fin cfg1.N, win1_15.index t = ![0, 0] :=
  (by decide +kernel : ∀ t : Fin grid1.N, _)
theorem place1_16 : ∀ t : Fin cfg1.N, win1_16.index t = ![0, 0] :=
  (by decide +kernel : ∀ t : Fin grid1.N, _)

variable (W : Vals (F := Ideal)) (c : Dev nD)

theorem block1_0 (t : Fin cfg1.N) (s : Fin 16) (b : Fin 8) (k : Fin 1024) :
    (blk1 W c 0 t : FVec Ideal S16x8x1024 .f32) (ix3 s b k)
      = (W c main_v59_0 : FVec Ideal S1024x8x1024 .f32) (ix3 (⟨16 * t.val + s.val, by have := lt_of_lt_of_eq t.isLt N_1; omega⟩ : Fin 1024) b k) := by
  blk_point [blk1, place1_0 t]
theorem block1_1 (t : Fin cfg1.N) (s : Fin 16) (b : Fin 8) (k : Fin 1024) :
    (blk1 W c 1 t : FVec Ideal S16x8x1024 .f32) (ix3 s b k)
      = (W c main_v59_1 : FVec Ideal S1024x8x1024 .f32) (ix3 (⟨16 * t.val + s.val, by have := lt_of_lt_of_eq t.isLt N_1; omega⟩ : Fin 1024) b k) := by
  blk_point [blk1, place1_1 t]
theorem block1_2 (t : Fin cfg1.N) (s : Fin 16) (b : Fin 8) (k : Fin 1024) :
    (blk1 W c 2 t : FVec Ideal S16x8x1024 .f32) (ix3 s b k)
      = (W c main_v49 : FVec Ideal S1024x8x1024 .f32) (ix3 (⟨16 * t.val + s.val, by have := lt_of_lt_of_eq t.isLt N_1; omega⟩ : Fin 1024) b k) := by
  blk_point [blk1, place1_2 t]
theorem block1_3 (t : Fin cfg1.N) (s : Fin 16) (b : Fin 8) (k : Fin 512) :
    (blk1 W c 3 t : FVec Ideal S16x8x512 .f32) (ix3 s b k)
      = (W c main_v59_2 : FVec Ideal S1024x8x512 .f32) (ix3 (⟨16 * t.val + s.val, by have := lt_of_lt_of_eq t.isLt N_1; omega⟩ : Fin 1024) b k) := by
  blk_point [blk1, place1_3 t]
theorem block1_4 (t : Fin cfg1.N) (s : Fin 16) (b : Fin 8) (k : Fin 384) :
    (blk1 W c 4 t : FVec Ideal S16x8x384 .f32) (ix3 s b k)
      = (W c main_v59_3 : FVec Ideal S1024x8x384 .f32) (ix3 (⟨16 * t.val + s.val, by have := lt_of_lt_of_eq t.isLt N_1; omega⟩ : Fin 1024) b k) := by
  blk_point [blk1, place1_4 t]
theorem block1_5 (t : Fin cfg1.N) (s : Fin 16) (b : Fin 8) (k : Fin 384) :
    (blk1 W c 5 t : FVec Ideal S16x8x384 .f32) (ix3 s b k)
      = (W c main_v59_4 : FVec Ideal S1024x8x384 .f32) (ix3 (⟨16 * t.val + s.val, by have := lt_of_lt_of_eq t.isLt N_1; omega⟩ : Fin 1024) b k) := by
  blk_point [blk1, place1_5 t]
theorem block1_6 (t : Fin cfg1.N) :
    (blk1 W c 6 t : FVec Ideal S16x1024 .f32) = (W c main_v60 : FVec Ideal S16x1024 .f32) := by
  funext y
  idx_vars y
  blk_point [blk1, place1_6 t]
theorem block1_7 (t : Fin cfg1.N) :
    (blk1 W c 7 t : FVec Ideal S1024x16 .f32) = (W c main_arg14 : FVec Ideal S1024x16 .f32) := by
  funext y
  idx_vars y
  blk_point [blk1, place1_7 t]
theorem block1_8 (t : Fin cfg1.N) :
    (blk1 W c 8 t : FVec Ideal S1x16 .f32) = (W c main_v61 : FVec Ideal S1x16 .f32) := by
  funext y
  idx_vars y
  blk_point [blk1, place1_8 t]
theorem block1_9 (t : Fin cfg1.N) :
    (blk1 W c 9 t : FVec Ideal S512x1024 .f32) = (W c main_v62 : FVec Ideal S512x1024 .f32) := by
  funext y
  idx_vars y
  blk_point [blk1, place1_9 t]
theorem block1_10 (t : Fin cfg1.N) :
    (blk1 W c 10 t : FVec Ideal S512x384 .f32) = (W c main_v15 : FVec Ideal S512x384 .f32) := by
  funext y
  idx_vars y
  blk_point [blk1, place1_10 t]
theorem block1_11 (t : Fin cfg1.N) :
    (blk1 W c 11 t : FVec Ideal S512x384 .f32) = (W c main_v17 : FVec Ideal S512x384 .f32) := by
  funext y
  idx_vars y
  blk_point [blk1, place1_11 t]
theorem block1_12 (t : Fin cfg1.N) :
    (blk1 W c 12 t : FVec Ideal S384x512 .f32) = (W c main_v43 : FVec Ideal S384x512 .f32) := by
  funext y
  idx_vars y
  blk_point [blk1, place1_12 t]
theorem block1_13 (t : Fin cfg1.N) :
    (blk1 W c 13 t : FVec Ideal S384x512 .f32) = (W c main_v48 : FVec Ideal S384x512 .f32) := by
  funext y
  idx_vars y
  blk_point [blk1, place1_13 t]
theorem block1_14 (t : Fin cfg1.N) :
    (blk1 W c 14 t : FVec Ideal S1x512 .f32) = (W c main_v63 : FVec Ideal S1x512 .f32) := by
  funext y
  idx_vars y
  blk_point [blk1, place1_14 t]
theorem block1_15 (t : Fin cfg1.N) :
    (blk1 W c 15 t : FVec Ideal S1x1024 .f32) = (W c main_v64 : FVec Ideal S1x1024 .f32) := by
  funext y
  idx_vars y
  blk_point [blk1, place1_15 t]
theorem block1_16 (t : Fin cfg1.N) :
    (blk1 W c 16 t : FVec Ideal S1x1024 .f32) = (W c main_v65 : FVec Ideal S1x1024 .f32) := by
  funext y
  idx_vars y
  blk_point [blk1, place1_16 t]

end Cert.KernelIdeal.Hand
-- ==== Proof.KBlocks0.lean ====
module

public import proofs.«01_k».proof.Proof.IRun
public import Idealize.ShloMosaic.Lib.Pointwise
public import Idealize.ShloMosaic.Lib.Pipeline.ValueKit

/-! What the blocks of call 1's windows hold, at an index. -/

@[expose] public section

set_option maxRecDepth 16384

noncomputable section

namespace Cert.KernelIdeal.Hand

open Idealize.ShloMosaic Idealize.ShloMosaic.TcCoe
open Cert.KernelIdeal Cert.KernelIdeal.Gen

theorem place0_0 : ∀ t : Fin cfg0.N, win0_0.index t = ![t.val, 0, 0] :=
  (by decide +kernel : ∀ t : Fin grid0.N, _)
theorem place0_1 : ∀ t : Fin cfg0.N, win0_1.index t = ![t.val, 0] :=
  (by decide +kernel : ∀ t : Fin grid0.N, _)
theorem place0_2 : ∀ t : Fin cfg0.N, win0_2.index t = ![0, 0] :=
  (by decide +kernel : ∀ t : Fin grid0.N, _)
theorem place0_3 : ∀ t : Fin cfg0.N, win0_3.index t = ![0, 0] :=
  (by decide +kernel : ∀ t : Fin grid0.N, _)
theorem place0_4 : ∀ t : Fin cfg0.N, win0_4.index t = ![0, 0] :=
  (by decide +kernel : ∀ t : Fin grid0.N, _)
theorem place0_5 : ∀ t : Fin cfg0.N, win0_5.index t = ![0, 0] :=
  (by decide +kernel : ∀ t : Fin grid0.N, _)
theorem place0_6 : ∀ t : Fin cfg0.N, win0_6.index t = ![0, 0] :=
  (by decide +kernel : ∀ t : Fin grid0.N, _)
theorem place0_7 : ∀ t : Fin cfg0.N, win0_7.index t = ![0, 0] :=
  (by decide +kernel : ∀ t : Fin grid0.N, _)
theorem place0_8 : ∀ t : Fin cfg0.N, win0_8.index t = ![0, 0] :=
  (by decide +kernel : ∀ t : Fin grid0.N, _)
theorem place0_9 : ∀ t : Fin cfg0.N, win0_9.index t = ![0, 0] :=
  (by decide +kernel : ∀ t : Fin grid0.N, _)
theorem place0_10 : ∀ t : Fin cfg0.N, win0_10.index t = ![0, 0] :=
  (by decide +kernel : ∀ t : Fin grid0.N, _)
theorem place0_11 : ∀ t : Fin cfg0.N, win0_11.index t = ![0, 0] :=
  (by decide +kernel : ∀ t : Fin grid0.N, _)
theorem place0_12 : ∀ t : Fin cfg0.N, win0_12.index t = ![0, 0] :=
  (by decide +kernel : ∀ t : Fin grid0.N, _)
theorem place0_13 : ∀ t : Fin cfg0.N, win0_13.index t = ![0, 0] :=
  (by decide +kernel : ∀ t : Fin grid0.N, _)
theorem place0_14 : ∀ t : Fin cfg0.N, win0_14.index t = ![0, 0] :=
  (by decide +kernel : ∀ t : Fin grid0.N, _)
theorem place0_15 : ∀ t : Fin cfg0.N, win0_15.index t = ![0, 0] :=
  (by decide +kernel : ∀ t : Fin grid0.N, _)
theorem place0_16 : ∀ t : Fin cfg0.N, win0_16.index t = ![0, 0] :=
  (by decide +kernel : ∀ t : Fin grid0.N, _)
theorem place0_17 : ∀ t : Fin cfg0.N, win0_17.index t = ![0, 0] :=
  (by decide +kernel : ∀ t : Fin grid0.N, _)
theorem place0_18 : ∀ t : Fin cfg0.N, win0_18.index t = ![0, 0] :=
  (by decide +kernel : ∀ t : Fin grid0.N, _)

variable (W : Vals (F := Ideal)) (c : Dev nD)

theorem block0_0 (t : Fin cfg0.N) (s : Fin 32) (b : Fin 8) (k : Fin 1024) :
    (blk0 W c 0 t : FVec Ideal S32x8x1024 .f32) (ix3 s b k)
      = (W c main_v49 : FVec Ideal S1024x8x1024 .f32) (ix3 (⟨32 * t.val + s.val, by have := lt_of_lt_of_eq t.isLt N_0; omega⟩ : Fin 1024) b k) := by
  blk_point [blk0, place0_0 t]
theorem block0_1 (t : Fin cfg0.N) (s : Fin 32) (k : Fin 512) :
    (blk0 W c 1 t : FVec Ideal S32x512 .f32) (ix2 s k)
      = (W c main_arg1 : FVec Ideal S1024x512 .f32) (ix2 (⟨32 * t.val + s.val, by have := lt_of_lt_of_eq t.isLt N_0; omega⟩ : Fin 1024) k) := by
  blk_point [blk0, place0_1 t]
theorem block0_2 (t : Fin cfg0.N) :
    (blk0 W c 2 t : FVec Ideal S1024x512 .f32) = (W c main_arg2 : FVec Ideal S1024x512 .f32) := by
  funext y
  idx_vars y
  blk_point [blk0, place0_2 t]
theorem block0_3 (t : Fin cfg0.N) :
    (blk0 W c 3 t : FVec Ideal S1x512 .f32) = (W c main_v50 : FVec Ideal S1x512 .f32) := by
  funext y
  idx_vars y
  blk_point [blk0, place0_3 t]
theorem block0_4 (t : Fin cfg0.N) :
    (blk0 W c 4 t : FVec Ideal S1024x1024 .f32) = (W c main_arg4 : FVec Ideal S1024x1024 .f32) := by
  funext y
  idx_vars y
  blk_point [blk0, place0_4 t]
theorem block0_5 (t : Fin cfg0.N) :
    (blk0 W c 5 t : FVec Ideal S1x1024 .f32) = (W c main_v51 : FVec Ideal S1x1024 .f32) := by
  funext y
  idx_vars y
  blk_point [blk0, place0_5 t]
theorem block0_6 (t : Fin cfg0.N) :
    (blk0 W c 6 t : FVec Ideal S1024x1024 .f32) = (W c main_arg6 : FVec Ideal S1024x1024 .f32) := by
  funext y
  idx_vars y
  blk_point [blk0, place0_6 t]
theorem block0_7 (t : Fin cfg0.N) :
    (blk0 W c 7 t : FVec Ideal S1x1024 .f32) = (W c main_v52 : FVec Ideal S1x1024 .f32) := by
  funext y
  idx_vars y
  blk_point [blk0, place0_7 t]
theorem block0_8 (t : Fin cfg0.N) :
    (blk0 W c 8 t : FVec Ideal S1024x512 .f32) = (W c main_arg8 : FVec Ideal S1024x512 .f32) := by
  funext y
  idx_vars y
  blk_point [blk0, place0_8 t]
theorem block0_9 (t : Fin cfg0.N) :
    (blk0 W c 9 t : FVec Ideal S1x512 .f32) = (W c main_v53 : FVec Ideal S1x512 .f32) := by
  funext y
  idx_vars y
  blk_point [blk0, place0_9 t]
theorem block0_10 (t : Fin cfg0.N) :
    (blk0 W c 10 t : FVec Ideal S1024x1024 .f32) = (W c main_v54 : FVec Ideal S1024x1024 .f32) := by
  funext y
  idx_vars y
  blk_point [blk0, place0_10 t]
theorem block0_11 (t : Fin cfg0.N) :
    (blk0 W c 11 t : FVec Ideal S512x1024 .f32) = (W c main_v55 : FVec Ideal S512x1024 .f32) := by
  funext y
  idx_vars y
  blk_point [blk0, place0_11 t]
theorem block0_12 (t : Fin cfg0.N) :
    (blk0 W c 12 t : FVec Ideal S1x1024 .f32) = (W c main_v56 : FVec Ideal S1x1024 .f32) := by
  funext y
  idx_vars y
  blk_point [blk0, place0_12 t]
theorem block0_13 (t : Fin cfg0.N) :
    (blk0 W c 13 t : FVec Ideal S1024x1024 .f32) = (W c main_v57 : FVec Ideal S1024x1024 .f32) := by
  funext y
  idx_vars y
  blk_point [blk0, place0_13 t]
theorem block0_14 (t : Fin cfg0.N) :
    (blk0 W c 14 t : FVec Ideal S1x1024 .f32) = (W c main_v58 : FVec Ideal S1x1024 .f32) := by
  funext y
  idx_vars y
  blk_point [blk0, place0_14 t]
theorem block0_15 (t : Fin cfg0.N) :
    (blk0 W c 15 t : FVec Ideal S512x384 .f32) = (W c main_v15 : FVec Ideal S512x384 .f32) := by
  funext y
  idx_vars y
  blk_point [blk0, place0_15 t]
theorem block0_16 (t : Fin cfg0.N) :
    (blk0 W c 16 t : FVec Ideal S512x384 .f32) = (W c main_v17 : FVec Ideal S512x384 .f32) := by
  funext y
  idx_vars y
  blk_point [blk0, place0_16 t]
theorem block0_17 (t : Fin cfg0.N) :
    (blk0 W c 17 t : FVec Ideal S384x512 .f32) = (W c main_v43 : FVec Ideal S384x512 .f32) := by
  funext y
  idx_vars y
  blk_point [blk0, place0_17 t]
theorem block0_18 (t : Fin cfg0.N) :
    (blk0 W c 18 t : FVec Ideal S384x512 .f32) = (W c main_v48 : FVec Ideal S384x512 .f32) := by
  funext y
  idx_vars y
  blk_point [blk0, place0_18 t]

end Cert.KernelIdeal.Hand
-- ==== Proof.Trig.lean ====
module

public import Mathlib.Analysis.SpecialFunctions.Trigonometric.Basic
public import Mathlib.Algebra.BigOperators.Fin
public import Mathlib.Tactic.Ring
public import Mathlib.Tactic.Linarith

/-! The discrete Fourier transform of length 512 on the half spectrum: a product of spectra, transformed back,
is the circular convolution. -/

@[expose] public noncomputable section
namespace Cert.Dft

/-- the angle of one step -/
def θ : ℝ := 2 * Real.pi / 512

theorem sum_cos_mul_sin (a : ℝ) (N : ℕ) :
    2 * Real.sin (a / 2) * ∑ f ∈ Finset.range N, Real.cos (f * a) = Real.sin ((N - 1 / 2) * a) + Real.sin (a / 2) := by
  induction N with
  | zero =>
    have h : ((0 : ℕ) - 1 / 2 : ℝ) * a = -(a / 2) := by push_cast; ring
    rw [h, Real.sin_neg]; simp
  | succ N ih =>
    rw [Finset.sum_range_succ, mul_add, ih]
    have h1 : ((N + 1 : ℕ) - 1 / 2 : ℝ) * a = N * a + a / 2 := by push_cast; ring
    have h2 : ((N : ℝ) - 1 / 2) * a = N * a - a / 2 := by ring
    rw [h1, h2, Real.sin_add, Real.sin_sub]; ring

theorem sum_full (n : ℤ) :
    ∑ f ∈ Finset.range 512, Real.cos (n * f * θ) = if (512 : ℤ) ∣ n then 512 else 0 := by
  have e : ∀ f : ℕ, Real.cos (n * f * θ) = Real.cos (f * (n * θ)) := fun f => by congr 1; ring
  simp only [e]
  split_ifs with h
  · obtain ⟨k, rfl⟩ := h
    have hc : ∀ f ∈ Finset.range 512, Real.cos ((f : ℝ) * (((512 * k : ℤ) : ℝ) * θ)) = 1 := fun f _ => by
      have : (f : ℝ) * (((512 * k : ℤ) : ℝ) * θ) = ((f * k : ℤ) : ℝ) * (2 * Real.pi) := by
        unfold θ; push_cast; ring
      rw [this, Real.cos_int_mul_two_pi]
    rw [Finset.sum_congr rfl hc]; simp
  · have hs : Real.sin (n * θ / 2) ≠ 0 := by
      intro h0
      obtain ⟨k, hk⟩ := Real.sin_eq_zero_iff.1 h0
      apply h
      refine ⟨k, ?_⟩
      have hpi := Real.pi_pos.ne'
      have : (n : ℝ) = 512 * k := by
        unfold θ at hk
        have : (k : ℝ) * Real.pi = (n / 512) * Real.pi := by rw [hk]; ring
        have := mul_right_cancel₀ hpi this
        linarith
      exact_mod_cast this
    have := sum_cos_mul_sin (n * θ) 512
    have hz : Real.sin (((512 : ℕ) - 1 / 2 : ℝ) * (n * θ)) = -Real.sin (n * θ / 2) := by
      have : ((512 : ℕ) - 1 / 2 : ℝ) * (n * θ) = -(n * θ / 2) + (n : ℤ) * (2 * Real.pi) := by
        unfold θ; push_cast; ring
      rw [this, Real.sin_add_int_mul_two_pi, Real.sin_neg]
    rw [hz, neg_add_cancel] at this
    rcases mul_eq_zero.1 this with h' | h'
    · exact absurd h' (mul_ne_zero two_ne_zero hs)
    · exact h'

/-- the weight of a bin of the half spectrum -/
def wt (f : ℕ) : ℝ := if f < 257 then (if f = 0 ∨ f = 256 then 1 else 2) else 0

theorem sum_half (n : ℤ) :
    ∑ f ∈ Finset.range 384, wt f * Real.cos (n * f * θ) = if (512 : ℤ) ∣ n then 512 else 0 := by
  rw [← sum_full n]
  have h384 : ∑ f ∈ Finset.range 384, wt f * Real.cos (n * f * θ)
      = ∑ f ∈ Finset.range 257, wt f * Real.cos (n * f * θ) := by
    rw [show (384 : ℕ) = 257 + 127 from rfl, Finset.sum_range_add]
    rw [Finset.sum_eq_zero (s := Finset.range 127), add_zero]
    intro x _
    rw [wt, if_neg (by omega), zero_mul]
  have hl : ∑ f ∈ Finset.range 257, wt f * Real.cos (n * f * θ)
      = Real.cos (n * (0 : ℕ) * θ) + ∑ i ∈ Finset.range 255, 2 * Real.cos (n * (i + 1 : ℕ) * θ)
        + Real.cos (n * (256 : ℕ) * θ) := by
    rw [show (257 : ℕ) = 255 + 1 + 1 from rfl, Finset.sum_range_succ, Finset.sum_range_succ']
    rw [add_comm (∑ i ∈ Finset.range 255, _) _]
    have h0 : wt 0 = 1 := by norm_num [wt]
    have h1 : wt (255 + 1) = 1 := by norm_num [wt]
    rw [h0, h1, one_mul, one_mul]
    congr 2
  have hr : ∑ f ∈ Finset.range 512, Real.cos (n * f * θ)
      = Real.cos (n * (0 : ℕ) * θ) + ∑ i ∈ Finset.range 255, Real.cos (n * (i + 1 : ℕ) * θ)
        + Real.cos (n * (256 : ℕ) * θ) + ∑ i ∈ Finset.range 255, Real.cos (n * (i + 1 : ℕ) * θ) := by
    rw [show (512 : ℕ) = (255 + 1 + 1) + 255 from rfl, Finset.sum_range_add, Finset.sum_range_succ, Finset.sum_range_succ']
    rw [add_comm (∑ i ∈ Finset.range 255, Real.cos (n * (i + 1 : ℕ) * θ)) _]
    congr 1
    rw [← Finset.sum_range_reflect (fun i => Real.cos (n * (i + 1 : ℕ) * θ)) 255]
    refine Finset.sum_congr rfl fun i hi => ?_
    have hi' := Finset.mem_range.1 hi
    have e1 : ((255 - 1 - i + 1 : ℕ) : ℝ) = 255 - i := by
      rw [show 255 - 1 - i + 1 = 255 - i by omega, Nat.cast_sub (by omega)]; norm_num
    rw [e1]
    have : (n : ℝ) * ((255 + 1 + 1 + i : ℕ) : ℝ) * θ = -((n : ℝ) * (255 - i) * θ) + (n : ℤ) * (2 * Real.pi) := by
      unfold θ; push_cast; ring
    rw [this, Real.cos_add_int_mul_two_pi, Real.cos_neg]
  rw [h384, hl, hr, ← Finset.mul_sum]; ring

/-- the forward tables, cut at bin 257 -/
def C (j : ℤ) (f : ℕ) : ℝ := if f < 257 then Real.cos (θ * (j * f)) else 0
def S (j : ℤ) (f : ℕ) : ℝ := if f < 257 then Real.sin (θ * (j * f)) else 0
/-- the inverse tables -/
def A (f d : ℕ) : ℝ := wt f * Real.cos (θ * (f * d)) * (1 / 512)
def B (f d : ℕ) : ℝ := -wt f * Real.sin (θ * (f * d)) * (1 / 512)

theorem C_neg (j : ℤ) (f : ℕ) : C (-j) f = C j f := by
  unfold C; split_ifs
  · rw [← Real.cos_neg]; congr 1; push_cast; ring
  · rfl
theorem S_neg (j : ℤ) (f : ℕ) : S (-j) f = -S j f := by
  unfold S; split_ifs
  · rw [← Real.sin_neg]; congr 1; push_cast; ring
  · simp

theorem point (u v : ℤ) (d : ℕ) :
    ∑ f : Fin 384, ((C u f * C v f - S u f * S v f) * A f d + (-(C u f * S v f) - S u f * C v f) * B f d)
      = if (512 : ℤ) ∣ (u + v - d) then 1 else 0 := by
  have h := sum_half (u + v - d)
  have e : ∀ f : Fin 384, ((C u f * C v f - S u f * S v f) * A f d + (-(C u f * S v f) - S u f * C v f) * B f d)
      = wt f * Real.cos ((u + v - d : ℤ) * (f : ℕ) * θ) * (1 / 512) := fun f => by
    by_cases hf : (f : ℕ) < 257
    · simp only [C, S, A, B, if_pos hf]
      have : ((u + v - d : ℤ) : ℝ) * (f : ℕ) * θ = (θ * (u * (f : ℕ)) + θ * (v * (f : ℕ))) - θ * ((f : ℕ) * d) := by
        push_cast; ring
      rw [this, Real.cos_sub, Real.cos_add, Real.sin_add]; ring
    · simp [C, S, wt, if_neg hf]
  rw [Finset.sum_congr rfl fun f _ => e f, ← Finset.sum_mul,
    Fin.sum_univ_eq_sum_range (fun f => wt f * Real.cos ((u + v - d : ℤ) * f * θ)) 384, h]
  split_ifs <;> norm_num

/-- a product of spectra, transformed back -/
theorem conv (σ : Fin 512 → ℤ) (x p : Fin 512 → ℝ) (d : ℕ) :
    ∑ f : Fin 384, ((∑ j : Fin 512, x j * C (j : ℕ) f) * (∑ m, p m * C (σ m) f)
        - (-∑ j : Fin 512, x j * S (j : ℕ) f) * (-∑ m, p m * S (σ m) f)) * A f d
      + ∑ f : Fin 384, ((∑ j : Fin 512, x j * C (j : ℕ) f) * (-∑ m, p m * S (σ m) f)
        + (-∑ j : Fin 512, x j * S (j : ℕ) f) * (∑ m, p m * C (σ m) f)) * B f d
      = ∑ j : Fin 512, x j * ∑ m, p m * if (512 : ℤ) ∣ ((j : ℕ) + σ m - d : ℤ) then 1 else 0 := by
  rw [← Finset.sum_add_distrib]
  have e : ∀ f : Fin 384, ((∑ j : Fin 512, x j * C (j : ℕ) f) * (∑ m, p m * C (σ m) f)
        - (-∑ j : Fin 512, x j * S (j : ℕ) f) * (-∑ m, p m * S (σ m) f)) * A f d
      + ((∑ j : Fin 512, x j * C (j : ℕ) f) * (-∑ m, p m * S (σ m) f)
        + (-∑ j : Fin 512, x j * S (j : ℕ) f) * (∑ m, p m * C (σ m) f)) * B f d
      = ∑ j : Fin 512, ∑ m, x j * p m * ((C (j : ℕ) f * C (σ m) f - S (j : ℕ) f * S (σ m) f) * A f d
          + (-(C (j : ℕ) f * S (σ m) f) - S (j : ℕ) f * C (σ m) f) * B f d) := fun f => by
    have h (P Q : ℤ → ℕ → ℝ) : (∑ j : Fin 512, x j * P (j : ℕ) f) * (∑ m, p m * Q (σ m) f)
        = ∑ j : Fin 512, ∑ m, x j * p m * (P (j : ℕ) f * Q (σ m) f) := by
      rw [Finset.sum_mul_sum]
      exact Finset.sum_congr rfl fun j _ => Finset.sum_congr rfl fun m _ => by ring
    have e' : ∀ (j m : Fin 512), x j * p m * ((C (j : ℕ) f * C (σ m) f - S (j : ℕ) f * S (σ m) f) * A f d
          + (-(C (j : ℕ) f * S (σ m) f) - S (j : ℕ) f * C (σ m) f) * B f d)
        = (x j * p m * (C (j : ℕ) f * C (σ m) f) - x j * p m * (S (j : ℕ) f * S (σ m) f)) * A f d
          + (-(x j * p m * (C (j : ℕ) f * S (σ m) f)) - x j * p m * (S (j : ℕ) f * C (σ m) f)) * B f d :=
      fun j m => by ring
    simp only [e', Finset.sum_add_distrib, ← Finset.sum_mul, Finset.sum_sub_distrib, Finset.sum_neg_distrib]
    rw [← h C C, ← h S S, ← h C S, ← h S C]; ring
  rw [Finset.sum_congr rfl fun f _ => e f, Finset.sum_comm]
  refine Finset.sum_congr rfl fun j _ => ?_
  rw [Finset.sum_comm, Finset.mul_sum]
  refine Finset.sum_congr rfl fun m _ => ?_
  rw [← Finset.mul_sum, point, mul_assoc]

/-- the position `d - e` on the circle -/
def cyc (d e : Fin 512) : Fin 512 := ⟨if e.val ≤ d.val then d.val - e.val else d.val + 512 - e.val, by split_ifs <;> omega⟩

theorem pick (p : Fin 512 → ℝ) (i : Fin 512) (c : Fin 512 → Prop) [DecidablePred c] (h : ∀ m, c m ↔ m = i) :
    ∑ m, p m * (if c m then (1 : ℝ) else 0) = p i := by
  rw [Finset.sum_eq_single i]
  · rw [if_pos ((h i).2 rfl), mul_one]
  · intro m _ hm; rw [if_neg (fun hc => hm ((h m).1 hc)), mul_zero]
  · intro h; exact absurd (Finset.mem_univ _) h

theorem conv_fwd (x p : Fin 512 → ℝ) (d : Fin 512) :
    ∑ f : Fin 384, ((∑ j : Fin 512, x j * C (j : ℕ) f) * (∑ m : Fin 512, p m * C (m : ℕ) f)
        - (-∑ j : Fin 512, x j * S (j : ℕ) f) * (-∑ m : Fin 512, p m * S (m : ℕ) f)) * A f d
      + ∑ f : Fin 384, ((∑ j : Fin 512, x j * C (j : ℕ) f) * (-∑ m : Fin 512, p m * S (m : ℕ) f)
        + (-∑ j : Fin 512, x j * S (j : ℕ) f) * (∑ m : Fin 512, p m * C (m : ℕ) f)) * B f d
      = ∑ e : Fin 512, x e * p (cyc d e) := by
  rw [conv (fun m => ((m : ℕ) : ℤ)) x p d]
  refine Finset.sum_congr rfl fun j _ => ?_
  rw [pick p (cyc d j) _ fun m => ?_]
  rw [Fin.ext_iff]; unfold cyc; dsimp only
  constructor
  · intro h; split_ifs <;> omega
  · intro h; split_ifs at h <;> omega

theorem conv_bwd (x p : Fin 512 → ℝ) (e : Fin 512) :
    ∑ f : Fin 384, ((∑ j : Fin 512, x j * C (j : ℕ) f) * (∑ m : Fin 512, p m * C (m : ℕ) f)
        - (-∑ j : Fin 512, x j * S (j : ℕ) f) * (∑ m : Fin 512, p m * S (m : ℕ) f)) * A f e
      + ∑ f : Fin 384, ((∑ j : Fin 512, x j * C (j : ℕ) f) * (∑ m : Fin 512, p m * S (m : ℕ) f)
        + (-∑ j : Fin 512, x j * S (j : ℕ) f) * (∑ m : Fin 512, p m * C (m : ℕ) f)) * B f e
      = ∑ d : Fin 512, x d * p (cyc d e) := by
  have := conv (fun m => -((m : ℕ) : ℤ)) x p e
  simp only [C_neg, S_neg, mul_neg, Finset.sum_neg_distrib, neg_neg] at this
  rw [← neg_neg (∑ f : Fin 384, _ * A f e)] at this ⊢
  simp only [neg_neg, mul_neg] at this ⊢
  rw [this]
  refine Finset.sum_congr rfl fun j _ => ?_
  rw [pick p (cyc j e) _ fun m => ?_]
  rw [Fin.ext_iff]; unfold cyc; dsimp only
  constructor
  · intro h; split_ifs <;> omega
  · intro h; split_ifs at h <;> omega

end Cert.Dft
-- ==== Proof.Spec.lean ====
module

public import proofs.«01_k».proof.Proof.Trig
public import proofs.«01_k».proof.KernelIdeal
public import Idealize.ShloMosaic.Lib.Pointwise
public import Idealize.ShloMosaic.Lib.IdealHost
public import Idealize.ShloMosaic.PureOps.Ideal.Laws

/-! What both programs compute, written over the extended reals element by element, and where it is real. -/

@[expose] public section

set_option maxRecDepth 16384

noncomputable section

namespace Cert.Spec

open Idealize.ShloMosaic
open Cert.Dft (cyc)
open Cert.KernelIdeal (S8x1024x1024 S1024x512 S512 S1024x1024 S1024 S512x1 S1 S1552x1024 S1024x16 S16 S1536x1024)

/-- the twenty arguments -/
structure Args where
  hs : FVec Ideal S8x1024x1024 .f32
  pos : FVec Ideal S1024x512 .f32
  Wi : FVec Ideal S1024x512 .f32
  bi : FVec Ideal S512 .f32
  Wq : FVec Ideal S1024x1024 .f32
  bq : FVec Ideal S1024 .f32
  Wk1 : FVec Ideal S1024x1024 .f32
  bk1 : FVec Ideal S1024 .f32
  Wk2 : FVec Ideal S1024x512 .f32
  bk2 : FVec Ideal S512 .f32
  Wsa : FVec Ideal S512x1 .f32
  bsa : FVec Ideal S1 .f32
  Wg1 : FVec Ideal S1552x1024 .f32
  bg1 : FVec Ideal S1024 .f32
  Wg2 : FVec Ideal S1024x16 .f32
  bg2 : FVec Ideal S16 .f32
  Wo : FVec Ideal S1536x1024 .f32
  bo : FVec Ideal S1024 .f32
  lg : FVec Ideal S1024 .f32
  lb : FVec Ideal S1024 .f32

/-- one row of the carried memory, and the memory -/
abbrev Row := Fin 16 → Fin 512 → EReal
abbrev Mem := Fin 8 → Row

def half : EReal := Ideal.ofBits .f32 0x3F000000#32
def rt : EReal := Ideal.ofBits .f32 0x3F3504F3#32
def decay : EReal := Ideal.ofBits .f32 0x3F666666#32
def tiny : EReal := Ideal.ofBits .f32 0x2B8CBCCC#32
def eps : EReal := Ideal.ofBits .f32 0x3727C5AC#32
def cnt : EReal := Ideal.ofBits .f32 0x44800000#32
def low : EReal := Ideal.ofBits .f32 0xFF800000#32

/-- the exact gelu -/
def gelu (x : EReal) : EReal := half * x * Ideal.erfc (-x * rt)

variable (A : Args)

def items (b : Fin 8) (t : Fin 1024) (d : Fin 512) : EReal :=
  (∑ k : Fin 1024, A.hs (ix3 b t k) * A.Wi (ix2 k d)) + A.bi (ix1 d)
def qry (b : Fin 8) (t : Fin 1024) (j : Fin 1024) : EReal :=
  (∑ k : Fin 1024, A.hs (ix3 b t k) * A.Wq (ix2 k j)) + A.bq (ix1 j)
def hid (b : Fin 8) (t : Fin 1024) (j : Fin 1024) : EReal :=
  (∑ k : Fin 1024, qry A b t k * A.Wk1 (ix2 k j)) + A.bk1 (ix1 j)
def key0 (b : Fin 8) (t : Fin 1024) (d : Fin 512) : EReal :=
  (∑ k : Fin 1024, gelu (hid A b t k) * A.Wk2 (ix2 k d)) + A.bk2 (ix1 d)
def key (b : Fin 8) (t : Fin 1024) (d : Fin 512) : EReal :=
  Ideal.div (key0 A b t d) (max (Ideal.sqrt (∑ e : Fin 512, key0 A b t e * key0 A b t e)) tiny)
def bound (b : Fin 8) (t : Fin 1024) (d : Fin 512) : EReal :=
  ∑ e : Fin 512, items A b t e * A.pos (ix2 t (cyc d e))

section step
variable (b : Fin 8) (t : Fin 1024) (h : Row)
def ret (n : Fin 16) (e : Fin 512) : EReal := ∑ d : Fin 512, h n d * key A b t (cyc d e)
def score (n : Fin 16) : EReal := ∑ e : Fin 512, ret A b t h n e * A.Wsa (ix2 e 0)
def ex (n : Fin 16) : EReal := Ideal.exp (score A b t h n - Finset.univ.fold max low (score A b t h))
def ctx (d : Fin 512) : EReal :=
  ∑ n : Fin 16, ret A b t h n d * Ideal.div (ex A b t h n) (∑ n' : Fin 16, ex A b t h n')
def stats (n : Fin 16) : EReal := Ideal.sqrt (∑ d : Fin 512, h n d * h n d)
def gpre (j : Fin 1024) : EReal :=
  ((∑ k : Fin 1024, qry A b t k * A.Wg1 (ix2 ⟨k, by omega⟩ j))
    + (∑ k : Fin 512, items A b t k * A.Wg1 (ix2 ⟨1024 + k, by omega⟩ j))
    + (∑ k : Fin 16, stats h k * A.Wg1 (ix2 ⟨1536 + k, by omega⟩ j))) + A.bg1 (ix1 j)
def gate (n : Fin 16) : EReal :=
  Ideal.logistic ((∑ j : Fin 1024, gelu (gpre A b t h j) * A.Wg2 (ix2 j n)) + A.bg2 (ix1 n))
def next : Row := fun n d => decay * h n d + gate A b t h n * bound A b t d
def lin (j : Fin 1024) : EReal :=
  ((∑ k : Fin 1024, qry A b t k * A.Wo (ix2 ⟨k, by omega⟩ j))
    + (∑ k : Fin 512, ctx A b t h k * A.Wo (ix2 ⟨1024 + k, by omega⟩ j))) + A.bo (ix1 j)
def xr (j : Fin 1024) : EReal := A.hs (ix3 b t j) + lin A b t h j
def xc (j : Fin 1024) : EReal := xr A b t h j - Ideal.div (∑ k : Fin 1024, xr A b t h k) cnt
def var : EReal := Ideal.div (∑ k : Fin 1024, xc A b t h k * xc A b t h k) cnt
def out (j : Fin 1024) : EReal :=
  Ideal.div (xc A b t h j) (Ideal.sqrt (var A b t h + eps)) * A.lg (ix1 j) + A.lb (ix1 j)
end step

/-- the memory after `k` steps -/
def state : ℕ → Mem
  | 0 => fun _ _ _ => 0
  | k + 1 => if hk : k < 1024 then fun b => next A b ⟨k, hk⟩ (state k b) else state k

theorem state_succ (k : ℕ) (hk : k < 1024) : state A (k + 1) = fun b => next A b ⟨k, hk⟩ (state A k b) := by
  rw [state, dif_pos hk]

/-! ## Where it is real -/

/-- a real number -/
def IsR (x : EReal) : Prop := ∃ r : ℝ, x = (r : EReal)

theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.sum {n : ℕ} {f : Fin n → EReal} (h : ∀ i, IsR (f i)) : IsR (∑ i, f i) := by
  choose g hg using h
  refine ⟨∑ i, g i, ?_⟩
  rw [coe_sum]; exact Finset.sum_congr rfl fun i _ => hg i

theorem half_eq : half = ((1 / 2 : ℝ) : EReal) := by
  unfold half; simp [Ideal.ofBits, Ideal.ieee, -EReal.coe_mul]; norm_num
theorem cnt_eq : cnt = ((1024 : ℝ) : EReal) := by
  unfold cnt; simp [Ideal.ofBits, Ideal.ieee, -EReal.coe_mul]; norm_num
theorem low_eq : low = ⊥ := by
  unfold low; simp [Ideal.ofBits, Ideal.ieee]
theorem rt_real : IsR rt := by
  unfold rt; exact ⟨_, by simp [Ideal.ofBits, Ideal.ieee, -EReal.coe_mul]; rfl⟩
theorem decay_real : IsR decay := by
  unfold decay; exact ⟨_, by simp [Ideal.ofBits, Ideal.ieee, -EReal.coe_mul]; rfl⟩
theorem tiny_real : ∃ r : ℝ, 0 < r ∧ tiny = (r : EReal) := by
  unfold tiny
  refine ⟨_, ?_, by simp [Ideal.ofBits, Ideal.ieee, -EReal.coe_mul]; rfl⟩
  positivity
theorem eps_real : ∃ r : ℝ, 0 < r ∧ eps = (r : EReal) := by
  unfold eps
  refine ⟨_, ?_, by simp [Ideal.ofBits, Ideal.ieee, -EReal.coe_mul]; rfl⟩
  positivity

theorem gelu_real {x : EReal} (hx : IsR x) : IsR (gelu x) := by
  unfold gelu Ideal.erfc
  obtain ⟨z, hz⟩ : IsR (-x * rt) := hx.neg.mul rt_real
  rw [hz, Ideal.erf_coe, sub_eq_add_neg]
  exact (IsR.mul ⟨_, half_eq⟩ hx).mul (IsR.add ⟨1, rfl⟩ (IsR.neg ⟨_, rfl⟩))

theorem logistic_real (x : EReal) : IsR (Ideal.logistic x) := by
  induction x with
  | bot => exact ⟨0, by simp⟩
  | top => exact ⟨1, by simp⟩
  | coe r => exact ⟨_, Ideal.logistic_coe r⟩

/-- every argument is real -/
structure Real (A : Args) : Prop where
  hs : ∀ i, IsR (A.hs i)
  pos : ∀ i, IsR (A.pos i)
  Wi : ∀ i, IsR (A.Wi i)
  bi : ∀ i, IsR (A.bi i)
  Wq : ∀ i, IsR (A.Wq i)
  bq : ∀ i, IsR (A.bq i)
  Wk1 : ∀ i, IsR (A.Wk1 i)
  bk1 : ∀ i, IsR (A.bk1 i)
  Wk2 : ∀ i, IsR (A.Wk2 i)
  bk2 : ∀ i, IsR (A.bk2 i)
  bsa : ∀ i, IsR (A.bsa i)

variable {A} (hA : Real A)
include hA

theorem items_real (b t d) : IsR (items A b t d) := (IsR.sum fun k => (hA.hs _).mul (hA.Wi _)).add (hA.bi _)
theorem qry_real (b t j) : IsR (qry A b t j) := (IsR.sum fun k => (hA.hs _).mul (hA.Wq _)).add (hA.bq _)
theorem hid_real (b t j) : IsR (hid A b t j) := (IsR.sum fun k => (qry_real hA _ _ _).mul (hA.Wk1 _)).add (hA.bk1 _)
theorem key0_real (b t d) : IsR (key0 A b t d) :=
  (IsR.sum fun k => (gelu_real (hid_real hA _ _ _)).mul (hA.Wk2 _)).add (hA.bk2 _)

theorem key_real (b t d) : IsR (key A b t d) := by
  unfold key
  obtain ⟨a, ha⟩ := key0_real hA b t d
  choose g hg using key0_real hA b t
  have hs : ∑ e : Fin 512, key0 A b t e * key0 A b t e = ((∑ e, g e * g e : ℝ) : EReal) := by
    rw [coe_sum]; exact Finset.sum_congr rfl fun e _ => by rw [hg e, EReal.coe_mul]
  obtain ⟨τ, hτ, ht⟩ := tiny_real
  have hnn : ¬ (∑ e, g e * g e : ℝ) < 0 := not_lt.2 (Finset.sum_nonneg fun e _ => mul_self_nonneg _)
  rw [hs, Ideal.sqrt_coe, if_neg hnn, ht, ← EReal.coe_strictMono.monotone.map_max,
    Ideal.div_coe (lt_of_lt_of_le hτ (le_max_right _ _)).ne', ha]
  exact IsR.mul ⟨_, rfl⟩ ⟨_, rfl⟩

theorem bound_real (b t d) : IsR (bound A b t d) := IsR.sum fun e => (items_real hA _ _ _).mul (hA.pos _)

theorem next_real (b t) (h : Row) (hh : ∀ n d, IsR (h n d)) (n d) : IsR (next A b t h n d) :=
  (decay_real.mul (hh n d)).add ((logistic_real _).mul (bound_real hA _ _ _))

theorem state_real (k : ℕ) (b n d) : IsR (state A k b n d) := by
  induction k generalizing b n d with
  | zero => exact ⟨0, rfl⟩
  | succ k ih =>
    by_cases hk : k < 1024
    · rw [state_succ A k hk]; exact next_real hA _ _ _ (fun n d => ih b n d) n d
    · rw [state, dif_neg hk]; exact ih b n d

omit hA

/-! ## The kernel's way of writing it -/

theorem zero_sub_e (x : EReal) : 0 - x = -x := by rw [sub_eq_add_neg, zero_add]

open Cert.Dft in
/-- binding through the spectra -/
theorem conv_fwd (x p : Fin 512 → EReal) (hx : ∀ j, IsR (x j)) (hp : ∀ j, IsR (p j)) (d : Fin 512) :
    ∑ f : Fin 384, ((∑ j : Fin 512, x j * ((C (j : ℕ) f : ℝ) : EReal)) * (∑ m : Fin 512, p m * ((C (m : ℕ) f : ℝ) : EReal))
        - (0 - ∑ j : Fin 512, x j * ((S (j : ℕ) f : ℝ) : EReal)) * (0 - ∑ m : Fin 512, p m * ((S (m : ℕ) f : ℝ) : EReal)))
          * ((Dft.A f d : ℝ) : EReal)
      + ∑ f : Fin 384, ((∑ j : Fin 512, x j * ((C (j : ℕ) f : ℝ) : EReal)) * (0 - ∑ m : Fin 512, p m * ((S (m : ℕ) f : ℝ) : EReal))
        + (0 - ∑ j : Fin 512, x j * ((S (j : ℕ) f : ℝ) : EReal)) * (∑ m : Fin 512, p m * ((C (m : ℕ) f : ℝ) : EReal)))
          * ((B f d : ℝ) : EReal)
      = ∑ e : Fin 512, x e * p (cyc d e) := by
  choose x' hx using hx
  choose p' hp using hp
  obtain rfl : x = fun j => ((x' j : ℝ) : EReal) := funext hx
  obtain rfl : p = fun j => ((p' j : ℝ) : EReal) := funext hp
  simp only [zero_sub_e, ← EReal.coe_mul, ← coe_sum, ← EReal.coe_neg, ← EReal.coe_sub, ← EReal.coe_add]
  rw [Dft.conv_fwd]

open Cert.Dft in
/-- unbinding through the spectra -/
theorem conv_bwd (x p : Fin 512 → EReal) (hx : ∀ j, IsR (x j)) (hp : ∀ j, IsR (p j)) (e : Fin 512) :
    ∑ f : Fin 384, ((∑ j : Fin 512, x j * ((C (j : ℕ) f : ℝ) : EReal)) * (∑ m : Fin 512, p m * ((C (m : ℕ) f : ℝ) : EReal))
        - (0 - ∑ j : Fin 512, x j * ((S (j : ℕ) f : ℝ) : EReal)) * (∑ m : Fin 512, p m * ((S (m : ℕ) f : ℝ) : EReal)))
          * ((Dft.A f e : ℝ) : EReal)
      + ∑ f : Fin 384, ((∑ j : Fin 512, x j * ((C (j : ℕ) f : ℝ) : EReal)) * (∑ m : Fin 512, p m * ((S (m : ℕ) f : ℝ) : EReal))
        + (0 - ∑ j : Fin 512, x j * ((S (j : ℕ) f : ℝ) : EReal)) * (∑ m : Fin 512, p m * ((C (m : ℕ) f : ℝ) : EReal)))
          * ((B f e : ℝ) : EReal)
      = ∑ d : Fin 512, x d * p (cyc d e) := by
  choose x' hx using hx
  choose p' hp using hp
  obtain rfl : x = fun j => ((x' j : ℝ) : EReal) := funext hx
  obtain rfl : p = fun j => ((p' j : ℝ) : EReal) := funext hp
  simp only [zero_sub_e, ← EReal.coe_mul, ← coe_sum, ← EReal.coe_neg, ← EReal.coe_sub, ← EReal.coe_add]
  rw [Dft.conv_bwd]

/-- the two branches of the kernel's gelu are one function -/
theorem gelu_pos (x : EReal) : half * x * (1 + Ideal.erf (x * rt)) = gelu x := by
  unfold gelu; rw [EReal.neg_mul, Ideal.erfc_neg]
theorem gelu_neg (x : EReal) : half * x * (1 - Ideal.erf ((0 - x) * rt)) = gelu x := by
  unfold gelu; rw [zero_sub_e]; rfl

/-- the square root's reciprocal -/
theorem mul_rsqrt (x y : EReal) (hy : 0 ≤ y) : x * Ideal.rsqrt (y + eps) = Ideal.div x (Ideal.sqrt (y + eps)) := by
  obtain ⟨ε, hε, he⟩ := eps_real
  rw [he]
  induction y with
  | bot => exact absurd hy (by simp)
  | top =>
    rw [EReal.top_add_coe, Ideal.rsqrt_top, Ideal.sqrt_top]
    simp [Ideal.div]
  | coe r =>
    have hr : (0 : ℝ) ≤ r := EReal.coe_nonneg.1 hy
    have hp : 0 < r + ε := by linarith
    rw [← EReal.coe_add, Ideal.rsqrt_coe, if_neg (not_lt.2 hp.le), if_neg hp.ne', Ideal.sqrt_coe, if_neg (not_lt.2 hp.le),
      Ideal.div_coe (Real.sqrt_pos.2 hp).ne', one_div]

theorem mul_self_nonneg_e (x : EReal) : 0 ≤ x * x := by
  induction x with
  | bot => simp
  | top => simp
  | coe r => rw [← EReal.coe_mul]; exact EReal.coe_nonneg.2 (mul_self_nonneg r)

theorem var_nonneg (A : Args) (b t h) : 0 ≤ var A b t h := by
  unfold var
  rw [cnt_eq, Ideal.div_coe (by norm_num)]
  refine mul_nonneg (Finset.sum_nonneg fun k _ => mul_self_nonneg_e _) (EReal.coe_nonneg.2 (by norm_num))

/-- a shift of the scores leaves the exponentials alone -/
theorem shift (s : Fin 16 → EReal) (β : EReal) (hβ : IsR β) (n : Fin 16) :
    (s n + β) - Finset.univ.fold max low (fun n' => s n' + β) = s n - Finset.univ.fold max low s := by
  obtain ⟨r, rfl⟩ := hβ
  have h := Finset.fold_hom (op := max) (op' := max) (b := low) (s := (Finset.univ : Finset (Fin 16))) (f := s)
    (m := fun x : EReal => x + (r : EReal)) (fun x y => (add_left_mono.map_max : _))
  have hl : low + (r : EReal) = low := by rw [low_eq]; simp
  rw [hl] at h
  rw [h]
  generalize Finset.univ.fold max low s = M
  generalize s n = σ
  induction σ with
  | bot => simp
  | top => induction M with
    | bot => simp
    | top => simp
    | coe M => rw [← EReal.coe_add, EReal.top_add_coe, EReal.top_sub_coe, EReal.top_sub_coe]
  | coe σ => induction M with
    | bot => simp [← EReal.coe_add]
    | top => simp [← EReal.coe_add]
    | coe M => rw [← EReal.coe_add, ← EReal.coe_add, ← EReal.coe_sub, ← EReal.coe_sub]; congr 1; ring

end Cert.Spec
-- ==== Proof.KTables.lean ====
module

public import proofs.«01_k».proof.Proof.Spec
public import proofs.«01_k».proof.Proof.Gen.KernelIdeal.Regions
public import Idealize.ShloMosaic.Lib.StableHlo.RunRead

/-! The spectral tables that the host computes. -/

@[expose] public section

set_option maxRecDepth 16384

noncomputable section

namespace Cert.KernelIdeal.Hand

open Idealize.ShloMosaic Idealize.ShloMosaic.TcCoe
open Cert.KernelIdeal Cert.KernelIdeal.Gen
open Cert.Spec Cert.Dft

variable (m : (ℓ : Loc nD τ sig) → Buf (Elt Ideal) ℓ) (c : Dev nD)

theorem one512 : Ideal.ofBits .f32 0x3B000000#32 = ((1 / 512 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem n256 : Ideal.ofBits .f32 0x43800000#32 = ((256 : ℝ) : EReal) := by
  simp [Ideal.ofBits, Ideal.ieee, -EReal.coe_mul]; norm_num
theorem n257 : Ideal.ofBits .f32 0x43808000#32 = ((257 : ℝ) : EReal) := by
  simp [Ideal.ofBits, Ideal.ieee, -EReal.coe_mul]; norm_num

theorem sit (n : ℕ) (h : n < 1024) : FloatOps.sitofp (F := Ideal) FTy.f32 (BitVec.ofNat 32 n) = ((n : ℝ) : EReal) := by
  have hw : (BitVec.ofNat 32 n).toInt = n := by
    rw [BitVec.toInt_ofNat', Int.bmod]; split <;> omega
  exact congrArg (fun z : ℤ => ((z : ℝ) : EReal)) hw |>.trans (by norm_num)

theorem angle (j f : ℕ) (hj : j < 1024) (hf : f < 1024) :
    Ideal.ofBits FTy.f32 1090519040#32 * Ideal.atan 1 *
          (FloatOps.sitofp (F := Ideal) FTy.f32 (BitVec.ofNat 32 j) * FloatOps.sitofp (F := Ideal) FTy.f32 (BitVec.ofNat 32 f) *
            Ideal.ofBits FTy.f32 989855744#32)
      = ((θ * ((j : ℝ) * f) : ℝ) : EReal) := by
  rw [sit j hj, sit f hf, one512, eight, show (1 : EReal) = ((1 : ℝ) : EReal) from rfl, Ideal.atan_coe, Real.arctan_one,
    ← EReal.coe_mul, ← EReal.coe_mul, ← EReal.coe_mul, ← EReal.coe_mul, θ]
  congr 1; ring

theorem below (f : ℕ) (hf : f < 1024) :
    (FloatOps.sitofp (F := Ideal) FTy.f32 (BitVec.ofNat 32 f) < Ideal.ofBits FTy.f32 1132494848#32) ↔ f < 257 := by
  rw [sit f hf, n257, EReal.coe_lt_coe_iff]; exact_mod_cast Iff.rfl

theorem weight (f : ℕ) (hf : f < 1024) :
    (if FloatOps.sitofp (F := Ideal) FTy.f32 (BitVec.ofNat 32 f) < Ideal.ofBits FTy.f32 1132494848#32 then
        Scalar.select
            (IntOp.ori (BitVec.ofBool (decide (FloatOps.sitofp (F := Ideal) FTy.f32 (BitVec.ofNat 32 f) = 0)))
              (BitVec.ofBool
                (decide (FloatOps.sitofp (F := Ideal) FTy.f32 (BitVec.ofNat 32 f) = Ideal.ofBits FTy.f32 1132462080#32))))
            (1 : EReal) (Ideal.ofBits FTy.f32 1073741824#32) else 0) = ((wt f : ℝ) : EReal) := by
  have h1 := below f hf
  have h2 : (FloatOps.sitofp (F := Ideal) FTy.f32 (BitVec.ofNat 32 f) = Ideal.ofBits FTy.f32 1132462080#32) ↔ f = 256 := by
    rw [sit f hf, n256, EReal.coe_eq_coe_iff]; exact_mod_cast Iff.rfl
  have h3 : (FloatOps.sitofp (F := Ideal) FTy.f32 (BitVec.ofNat 32 f) = 0) ↔ f = 0 := by
    rw [sit f hf, EReal.coe_eq_zero, Nat.cast_eq_zero]
  simp only [h1, h2, h3, two, wt]
  by_cases ha : f = 0 <;> by_cases hb : f = 256 <;> by_cases hc : f < 257 <;>
    simp [ha, hb, hc, Scalar.select, IntOp.ori]

set_option maxHeartbeats 4000000 in
theorem cos_table (j : Fin 512) (f : Fin 384) :
    (V1 m c main_v15 : FVec Ideal S512x384 .f32) (ix2 j f) = ((C (j : ℕ) f : ℝ) : EReal) := by
  unfold V1
  after_reads_simp
  pointwise []
  rw [angle j f (by omega) (by omega), if_congr (below f (by omega)) rfl rfl, Ideal.cos_coe, C]
  split_ifs <;> simp

set_option maxHeartbeats 4000000 in
theorem sin_table (j : Fin 512) (f : Fin 384) :
    (V1 m c main_v17 : FVec Ideal S512x384 .f32) (ix2 j f) = ((S (j : ℕ) f : ℝ) : EReal) := by
  unfold V1
  after_reads_simp
  pointwise []
  rw [angle j f (by omega) (by omega), if_congr (below f (by omega)) rfl rfl, Ideal.sin_coe, S]
  split_ifs <;> simp

set_option maxHeartbeats 4000000 in
theorem re_table (f : Fin 384) (d : Fin 512) :
    (V1 m c main_v43 : FVec Ideal S384x512 .f32) (ix2 f d) = ((Dft.A f d : ℝ) : EReal) := by
  unfold V1
  after_reads_simp
  pointwise []
  rw [angle f d (by omega) (by omega), weight f (by omega), Ideal.cos_coe, one512, ← EReal.coe_mul, ← EReal.coe_mul, Dft.A]

set_option maxHeartbeats 4000000 in
theorem im_table (f : Fin 384) (d : Fin 512) :
    (V1 m c main_v48 : FVec Ideal S384x512 .f32) (ix2 f d) = ((B f d : ℝ) : EReal) := by
  unfold V1
  after_reads_simp
  pointwise []
  rw [angle f d (by omega) (by omega), weight f (by omega), Ideal.sin_coe, one512, ← EReal.coe_neg, ← EReal.coe_mul, ← EReal.coe_mul, B]

end Cert.KernelIdeal.Hand
-- ==== Proof.KHost.lean ====
module

public import proofs.«01_k».proof.Proof.IRun
public import proofs.«01_k».proof.Proof.KTables

/-! What the host hands to the two calls, in terms of the arguments. -/

@[expose] public section

set_option maxRecDepth 16384

noncomputable section

namespace Cert.KernelIdeal.Hand

open Idealize.ShloMosaic Idealize.ShloMosaic.TcCoe
open Cert.KernelIdeal Cert.KernelIdeal.Gen
open Cert.Spec

variable (m : (ℓ : Loc nD τ sig) → Buf (Elt Ideal) ℓ) (c : Dev nD)

/-- the kernel's arguments -/
def args : Args where
  hs := m ((c : Thread nD τ).loc main_arg0)
  pos := m ((c : Thread nD τ).loc main_arg1)
  Wi := m ((c : Thread nD τ).loc main_arg2)
  bi := m ((c : Thread nD τ).loc main_arg3)
  Wq := m ((c : Thread nD τ).loc main_arg4)
  bq := m ((c : Thread nD τ).loc main_arg5)
  Wk1 := m ((c : Thread nD τ).loc main_arg6)
  bk1 := m ((c : Thread nD τ).loc main_arg7)
  Wk2 := m ((c : Thread nD τ).loc main_arg8)
  bk2 := m ((c : Thread nD τ).loc main_arg9)
  Wsa := m ((c : Thread nD τ).loc main_arg10)
  bsa := m ((c : Thread nD τ).loc main_arg11)
  Wg1 := m ((c : Thread nD τ).loc main_arg12)
  bg1 := m ((c : Thread nD τ).loc main_arg13)
  Wg2 := m ((c : Thread nD τ).loc main_arg14)
  bg2 := m ((c : Thread nD τ).loc main_arg15)
  Wo := m ((c : Thread nD τ).loc main_arg16)
  bo := m ((c : Thread nD τ).loc main_arg17)
  lg := m ((c : Thread nD τ).loc main_arg18)
  lb := m ((c : Thread nD τ).loc main_arg19)

theorem first_arg1 : in0 m c main_arg1 = (args m c).pos := V1_of m c main_arg1 (by decide)
theorem first_arg2 : in0 m c main_arg2 = (args m c).Wi := V1_of m c main_arg2 (by decide)
theorem first_arg4 : in0 m c main_arg4 = (args m c).Wq := V1_of m c main_arg4 (by decide)
theorem first_arg6 : in0 m c main_arg6 = (args m c).Wk1 := V1_of m c main_arg6 (by decide)
theorem first_arg8 : in0 m c main_arg8 = (args m c).Wk2 := V1_of m c main_arg8 (by decide)

set_option maxHeartbeats 4000000 in
theorem hs_t (t : Fin 1024) (b : Fin 8) (k : Fin 1024) : (V1 m c main_v49 : FVec Ideal S1024x8x1024 .f32) (ix3 t b k) = (args m c).hs (ix3 b t k) := by
  unfold V1
  after_reads_simp
  pointwise []
  rfl

set_option maxHeartbeats 4000000 in
theorem bi (d : Fin 512) : (V1 m c main_v50 : FVec Ideal S1x512 .f32) (ix2 (0 : Fin 1) d) = (args m c).bi (ix1 d) := by
  unfold V1
  after_reads_simp
  pointwise []
  rfl

set_option maxHeartbeats 4000000 in
theorem bq (d : Fin 1024) : (V1 m c main_v51 : FVec Ideal S1x1024 .f32) (ix2 (0 : Fin 1) d) = (args m c).bq (ix1 d) := by
  unfold V1
  after_reads_simp
  pointwise []
  rfl

set_option maxHeartbeats 4000000 in
theorem bk1 (d : Fin 1024) : (V1 m c main_v52 : FVec Ideal S1x1024 .f32) (ix2 (0 : Fin 1) d) = (args m c).bk1 (ix1 d) := by
  unfold V1
  after_reads_simp
  pointwise []
  rfl

set_option maxHeartbeats 4000000 in
theorem bk2 (d : Fin 512) : (V1 m c main_v53 : FVec Ideal S1x512 .f32) (ix2 (0 : Fin 1) d) = (args m c).bk2 (ix1 d) := by
  unfold V1
  after_reads_simp
  pointwise []
  rfl

set_option maxHeartbeats 4000000 in
theorem bg1 (d : Fin 1024) : (V1 m c main_v56 : FVec Ideal S1x1024 .f32) (ix2 (0 : Fin 1) d) = (args m c).bg1 (ix1 d) := by
  unfold V1
  after_reads_simp
  pointwise []
  rfl

set_option maxHeartbeats 4000000 in
theorem bo (d : Fin 1024) : (V1 m c main_v58 : FVec Ideal S1x1024 .f32) (ix2 (0 : Fin 1) d) = (args m c).bo (ix1 d) := by
  unfold V1
  after_reads_simp
  pointwise []
  rfl

set_option maxHeartbeats 4000000 in
theorem Wg1_q (k j : Fin 1024) : (V1 m c main_v54 : FVec Ideal S1024x1024 .f32) (ix2 k j) = (args m c).Wg1 (ix2 (⟨k.val, by omega⟩ : Fin 1552) j) := by
  unfold V1
  after_reads_simp
  pointwise []
  rfl

set_option maxHeartbeats 4000000 in
theorem Wg1_i (k : Fin 512) (j : Fin 1024) : (V1 m c main_v55 : FVec Ideal S512x1024 .f32) (ix2 k j) = (args m c).Wg1 (ix2 (⟨1024 + k.val, by omega⟩ : Fin 1552) j) := by
  unfold V1
  after_reads_simp
  pointwise []
  rfl

set_option maxHeartbeats 4000000 in
theorem Wo_q (k j : Fin 1024) : (V1 m c main_v57 : FVec Ideal S1024x1024 .f32) (ix2 k j) = (args m c).Wo (ix2 (⟨k.val, by omega⟩ : Fin 1536) j) := by
  unfold V1
  after_reads_simp
  pointwise []
  rfl

theorem Wg1_s (k : Fin 16) (j : Fin 1024) : (V3 m (outs0 m) c main_v60 : FVec Ideal S16x1024 .f32) (ix2 k j) = (args m c).Wg1 (ix2 (⟨1536 + k.val, by omega⟩ : Fin 1552) j) := by
  have h : V2 m (outs0 m) c main_arg12 = m ((c : Thread nD τ).loc main_arg12) := (V2_of m (outs0 m) c main_arg12 (by decide)).trans (V1_of m c main_arg12 (by decide))
  unfold V3
  after_reads_simp
  rw [h]
  pointwise []
  rfl

theorem bg2 (n : Fin 16) : (V3 m (outs0 m) c main_v61 : FVec Ideal S1x16 .f32) (ix2 (0 : Fin 1) n) = (args m c).bg2 (ix1 n) := by
  have h : V2 m (outs0 m) c main_arg15 = m ((c : Thread nD τ).loc main_arg15) := (V2_of m (outs0 m) c main_arg15 (by decide)).trans (V1_of m c main_arg15 (by decide))
  unfold V3
  after_reads_simp
  rw [h]
  pointwise []
  rfl

theorem Wo_c (k : Fin 512) (j : Fin 1024) : (V3 m (outs0 m) c main_v62 : FVec Ideal S512x1024 .f32) (ix2 k j) = (args m c).Wo (ix2 (⟨1024 + k.val, by omega⟩ : Fin 1536) j) := by
  have h : V2 m (outs0 m) c main_arg16 = m ((c : Thread nD τ).loc main_arg16) := (V2_of m (outs0 m) c main_arg16 (by decide)).trans (V1_of m c main_arg16 (by decide))
  unfold V3
  after_reads_simp
  rw [h]
  pointwise []
  rfl

theorem Wsa_t (e : Fin 512) : (V3 m (outs0 m) c main_v63 : FVec Ideal S1x512 .f32) (ix2 (0 : Fin 1) e) = (args m c).Wsa (ix2 e (0 : Fin 1)) := by
  have h : V2 m (outs0 m) c main_arg10 = m ((c : Thread nD τ).loc main_arg10) := (V2_of m (outs0 m) c main_arg10 (by decide)).trans (V1_of m c main_arg10 (by decide))
  unfold V3
  after_reads_simp
  rw [h]
  pointwise []
  rfl

theorem ln_g (j : Fin 1024) : (V3 m (outs0 m) c main_v64 : FVec Ideal S1x1024 .f32) (ix2 (0 : Fin 1) j) = (args m c).lg (ix1 j) := by
  have h : V2 m (outs0 m) c main_arg18 = m ((c : Thread nD τ).loc main_arg18) := (V2_of m (outs0 m) c main_arg18 (by decide)).trans (V1_of m c main_arg18 (by decide))
  unfold V3
  after_reads_simp
  rw [h]
  pointwise []
  rfl

theorem ln_b (j : Fin 1024) : (V3 m (outs0 m) c main_v65 : FVec Ideal S1x1024 .f32) (ix2 (0 : Fin 1) j) = (args m c).lb (ix1 j) := by
  have h : V2 m (outs0 m) c main_arg19 = m ((c : Thread nD τ).loc main_arg19) := (V2_of m (outs0 m) c main_arg19 (by decide)).trans (V1_of m c main_arg19 (by decide))
  unfold V3
  after_reads_simp
  rw [h]
  pointwise []
  rfl

theorem second_arg14 : in1 m c main_arg14 = (args m c).Wg2 :=
  (V3_of m (outs0 m) c main_arg14 (by decide)).trans ((V2_of m (outs0 m) c main_arg14 (by decide)).trans (V1_of m c main_arg14 (by decide)))
theorem kept_v49 : in1 m c main_v49 = V1 m c main_v49 :=
  (V3_of m (outs0 m) c main_v49 (by decide)).trans (V2_of m (outs0 m) c main_v49 (by decide))
theorem kept_v15 : in1 m c main_v15 = V1 m c main_v15 :=
  (V3_of m (outs0 m) c main_v15 (by decide)).trans (V2_of m (outs0 m) c main_v15 (by decide))
theorem kept_v17 : in1 m c main_v17 = V1 m c main_v17 :=
  (V3_of m (outs0 m) c main_v17 (by decide)).trans (V2_of m (outs0 m) c main_v17 (by decide))
theorem kept_v43 : in1 m c main_v43 = V1 m c main_v43 :=
  (V3_of m (outs0 m) c main_v43 (by decide)).trans (V2_of m (outs0 m) c main_v43 (by decide))
theorem kept_v48 : in1 m c main_v48 = V1 m c main_v48 :=
  (V3_of m (outs0 m) c main_v48 (by decide)).trans (V2_of m (outs0 m) c main_v48 (by decide))
theorem left_eq (r : Ref sig .tc) : V2 m (outs0 m) c r = left0 m c r := by
  show Function.update (Function.update (Function.update (Function.update (Function.update (V1 m c) main_v59_0 (left0 m c main_v59_0))
    main_v59_1 (left0 m c main_v59_1)) main_v59_2 (left0 m c main_v59_2)) main_v59_3 (left0 m c main_v59_3)) main_v59_4 (left0 m c main_v59_4) r = left0 m c r
  rw [left0_0, left0_1, left0_2, left0_3, left0_4]
  rfl
theorem made_0 : in1 m c main_v59_0 = (dat0 (in0 m) c).arrAt 19 cfg0.N := by
  refine (V3_of m (outs0 m) c main_v59_0 (by decide)).trans ?_
  rw [← left0_0]
  exact left_eq m c main_v59_0
theorem made_1 : in1 m c main_v59_1 = (dat0 (in0 m) c).arrAt 20 cfg0.N := by
  refine (V3_of m (outs0 m) c main_v59_1 (by decide)).trans ?_
  rw [← left0_1]
  exact left_eq m c main_v59_1
theorem made_2 : in1 m c main_v59_2 = (dat0 (in0 m) c).arrAt 21 cfg0.N := by
  refine (V3_of m (outs0 m) c main_v59_2 (by decide)).trans ?_
  rw [← left0_2]
  exact left_eq m c main_v59_2
theorem made_3 : in1 m c main_v59_3 = (dat0 (in0 m) c).arrAt 22 cfg0.N := by
  refine (V3_of m (outs0 m) c main_v59_3 (by decide)).trans ?_
  rw [← left0_3]
  exact left_eq m c main_v59_3
theorem made_4 : in1 m c main_v59_4 = (dat0 (in0 m) c).arrAt 23 cfg0.N := by
  refine (V3_of m (outs0 m) c main_v59_4 (by decide)).trans ?_
  rw [← left0_4]
  exact left_eq m c main_v59_4

end Cert.KernelIdeal.Hand
-- ==== Proof.PayA.lean ====
module

public import proofs.«01_k».proof.Proof.Spec
public import proofs.«01_k».proof.Proof.Gen.KernelIdeal.Skeleton

/-! The first kernel's arithmetic at an index. -/

@[expose] public section

set_option maxRecDepth 16384

noncomputable section

namespace Cert.KernelIdeal.Hand

open Idealize.ShloMosaic Idealize.ShloMosaic.TcCoe
open Cert.KernelIdeal Cert.KernelIdeal.Gen
open Cert.Spec Cert.Dft

variable (A : Args) (bb : Fin 256 → Fin 8) (tt : Fin 256 → Fin 1024)

/-- the block of hidden states holds the rows that `bb` and `tt` say -/
abbrev RowsOf (x0 : FVec Ideal S32x8x1024 .f32) : Prop :=
  ∀ (r : Fin 256) (k : Fin 1024), x0 (ix3 (⟨r.val / 8, by omega⟩ : Fin 32) (⟨r.val % 8, by omega⟩ : Fin 8) k) = A.hs (ix3 (bb r) (tt r) k)

variable {A bb tt} {x0 : FVec Ideal S32x8x1024 .f32} (h0 : RowsOf A bb tt x0)
include h0

theorem pay4_at (x3 : FVec Ideal S1x512 .f32) (h3 : ∀ d : Fin 512, x3 (ix2 (0 : Fin 1) d) = A.bi (ix1 d)) (r : Fin 256) (d : Fin 512) :
    k0_pay4 (F := Ideal) x0 A.Wi x3 (ix2 r d) = items A (bb r) (tt r) d := by
  pointwise [k0_pay4, k0_pay3, items, h3]
  simp only [h0 r]

theorem pay5_at (x5 : FVec Ideal S1x1024 .f32) (h5 : ∀ d : Fin 1024, x5 (ix2 (0 : Fin 1) d) = A.bq (ix1 d)) (r : Fin 256) (j : Fin 1024) :
    k0_pay5 (F := Ideal) x0 A.Wq x5 (ix2 r j) = qry A (bb r) (tt r) j := by
  pointwise [k0_pay5, k0_pay3, qry, h5]
  simp only [h0 r]

theorem pay6_at (x5 : FVec Ideal S1x1024 .f32) (h5 : ∀ d : Fin 1024, x5 (ix2 (0 : Fin 1) d) = A.bq (ix1 d))
    (x7 : FVec Ideal S1x1024 .f32) (h7 : ∀ d : Fin 1024, x7 (ix2 (0 : Fin 1) d) = A.bk1 (ix1 d)) (r : Fin 256) (j : Fin 1024) :
    k0_pay6 (F := Ideal) x0 A.Wq x5 A.Wk1 x7 (ix2 r j) = hid A (bb r) (tt r) j := by
  pointwise [k0_pay6, hid, h7]
  simp only [pay5_at h0 x5 h5]
omit h0

theorem pay10_raw (x : FVec Ideal S256x1024 .f32) (v28 v32 v34 : FVec Ideal S256x1024 .f32)
    (w : FVec Ideal S1024x512 .f32) (x9 : FVec Ideal S1x512 .f32)
    (g : Fin 1024 → EReal) (r : Fin 256)
    (h28 : ∀ k, v28 (ix2 r k) = g k) (htail : ∀ k, v34 (ix2 r k) * (1 - Ideal.erf (v32 (ix2 r k))) = g k) (d : Fin 512) :
    k0_pay10 (F := Ideal) x v28 v32 v34 w x9 (ix2 r d)
      = Ideal.div ((∑ k : Fin 1024, g k * w (ix2 k d)) + x9 (ix2 (0 : Fin 1) d))
          (max (Ideal.sqrt (∑ e : Fin 512, ((∑ k : Fin 1024, g k * w (ix2 k e)) + x9 (ix2 (0 : Fin 1) e)) * ((∑ k : Fin 1024, g k * w (ix2 k e)) + x9 (ix2 (0 : Fin 1) e)))) tiny) := by
  pointwise [k0_pay10, h28, tiny]
  simp only [Ideal.erf_def, htail, ite_self]

section key
include h0
variable (x5 : FVec Ideal S1x1024 .f32) (h5 : ∀ d : Fin 1024, x5 (ix2 (0 : Fin 1) d) = A.bq (ix1 d))
    (x7 : FVec Ideal S1x1024 .f32) (h7 : ∀ d : Fin 1024, x7 (ix2 (0 : Fin 1) d) = A.bk1 (ix1 d))
    (x9 : FVec Ideal S1x512 .f32) (h9 : ∀ d : Fin 512, x9 (ix2 (0 : Fin 1) d) = A.bk2 (ix1 d))
include h5 h7

theorem pay7_at (r : Fin 256) (k : Fin 1024) :
    k0_pay7 (F := Ideal) x0 A.Wq x5 A.Wk1 x7 (ix2 r k) = gelu (hid A (bb r) (tt r) k) := by
  rw [← gelu_pos]
  pointwise [k0_pay7, half, rt]
  simp only [pay6_at h0 x5 h5 x7 h7, Ideal.erf_def]

theorem tail_at (r : Fin 256) (k : Fin 1024) :
    k0_pay9 (F := Ideal) x0 A.Wq x5 A.Wk1 x7 (ix2 r k) * (1 - Ideal.erf (k0_pay8 (F := Ideal) x0 A.Wq x5 A.Wk1 x7 (ix2 r k)))
      = gelu (hid A (bb r) (tt r) k) := by
  rw [← gelu_neg]
  pointwise [k0_pay8, k0_pay9, half, rt]
  simp only [pay6_at h0 x5 h5 x7 h7]

include h9
theorem pay10_at (r : Fin 256) (d : Fin 512) :
    k0_pay10 (F := Ideal) (k0_pay6 x0 A.Wq x5 A.Wk1 x7) (k0_pay7 x0 A.Wq x5 A.Wk1 x7) (k0_pay8 x0 A.Wq x5 A.Wk1 x7)
        (k0_pay9 x0 A.Wq x5 A.Wk1 x7) A.Wk2 x9 (ix2 r d) = key A (bb r) (tt r) d := by
  rw [pay10_raw _ _ _ _ _ _ (fun k => gelu (hid A (bb r) (tt r) k)) r
    (pay7_at h0 x5 h5 x7 h7 r) (tail_at h0 x5 h5 x7 h7 r)]
  simp only [h9]
  rfl

theorem kr_at (x15 : FVec Ideal S512x384 .f32) (s : Fin 32) (b : Fin 8) (f : Fin 384) :
    k0_pay13 (F := Ideal) (k0_pay6 x0 A.Wq x5 A.Wk1 x7) (k0_pay7 x0 A.Wq x5 A.Wk1 x7) (k0_pay8 x0 A.Wq x5 A.Wk1 x7)
        (k0_pay9 x0 A.Wq x5 A.Wk1 x7) A.Wk2 x9 x15 (ix3 s b f)
      = ∑ d : Fin 512, key A (bb ⟨s.val * 8 + b.val, by omega⟩) (tt ⟨s.val * 8 + b.val, by omega⟩) d * x15 (ix2 d f) := by
  pointwise [k0_pay13, k0_pay11]
  simp only [pay10_at h0 x5 h5 x7 h7 x9 h9]

theorem ki_at (x16 : FVec Ideal S512x384 .f32) (s : Fin 32) (b : Fin 8) (f : Fin 384) :
    k0_pay14 (F := Ideal) (k0_pay6 x0 A.Wq x5 A.Wk1 x7) (k0_pay7 x0 A.Wq x5 A.Wk1 x7) (k0_pay8 x0 A.Wq x5 A.Wk1 x7)
        (k0_pay9 x0 A.Wq x5 A.Wk1 x7) A.Wk2 x9 x16 (ix3 s b f)
      = ∑ d : Fin 512, key A (bb ⟨s.val * 8 + b.val, by omega⟩) (tt ⟨s.val * 8 + b.val, by omega⟩) d * x16 (ix2 d f) := by
  pointwise [k0_pay14, k0_pay12]
  simp only [pay10_at h0 x5 h5 x7 h7 x9 h9]
end key

section gate
include h0
variable (x3 : FVec Ideal S1x512 .f32) (h3 : ∀ d : Fin 512, x3 (ix2 (0 : Fin 1) d) = A.bi (ix1 d))
    (x5 : FVec Ideal S1x1024 .f32) (h5 : ∀ d : Fin 1024, x5 (ix2 (0 : Fin 1) d) = A.bq (ix1 d))
include h5

theorem o0_at (x13 : FVec Ideal S1024x1024 .f32) (x14 : FVec Ideal S1x1024 .f32) (s : Fin 32) (b : Fin 8) (j : Fin 1024) :
    k0_pay2 (F := Ideal) (k0_pay5 x0 A.Wq x5) x13 x14 (ix3 s b j)
      = (∑ k : Fin 1024, qry A (bb ⟨s.val * 8 + b.val, by omega⟩) (tt ⟨s.val * 8 + b.val, by omega⟩) k * x13 (ix2 k j))
        + x14 (ix2 (0 : Fin 1) j) := by
  pointwise [k0_pay2]
  simp only [pay5_at h0 x5 h5]

include h3
theorem g0_at (x10 : FVec Ideal S1024x1024 .f32) (x11 : FVec Ideal S512x1024 .f32) (x12 : FVec Ideal S1x1024 .f32)
    (s : Fin 32) (b : Fin 8) (j : Fin 1024) :
    k0_pay1 (F := Ideal) (k0_pay18 (k0_pay4 x0 A.Wi x3) (k0_pay5 x0 A.Wq x5) x10 x11) x12 (ix3 s b j)
      = ((∑ k : Fin 1024, qry A (bb ⟨s.val * 8 + b.val, by omega⟩) (tt ⟨s.val * 8 + b.val, by omega⟩) k * x10 (ix2 k j))
          + ∑ k : Fin 512, items A (bb ⟨s.val * 8 + b.val, by omega⟩) (tt ⟨s.val * 8 + b.val, by omega⟩) k * x11 (ix2 k j))
        + x12 (ix2 (0 : Fin 1) j) := by
  pointwise [k0_pay1, k0_pay18]
  simp only [pay5_at h0 x5 h5, pay4_at h0 x3 h3]
end gate

section bind
include h0
variable (x3 : FVec Ideal S1x512 .f32) (h3 : ∀ d : Fin 512, x3 (ix2 (0 : Fin 1) d) = A.bi (ix1 d))
include h3

theorem bnd_at (hA : Spec.Real A) (x1 : FVec Ideal S32x512 .f32) (x15 x16 : FVec Ideal S512x384 .f32) (x17 x18 : FVec Ideal S384x512 .f32)
    (h15 : ∀ (j : Fin 512) (f : Fin 384), x15 (ix2 j f) = ((C (j : ℕ) f : ℝ) : EReal))
    (h16 : ∀ (j : Fin 512) (f : Fin 384), x16 (ix2 j f) = ((S (j : ℕ) f : ℝ) : EReal))
    (h17 : ∀ (f : Fin 384) (j : Fin 512), x17 (ix2 f j) = ((Dft.A f j : ℝ) : EReal))
    (h18 : ∀ (f : Fin 384) (j : Fin 512), x18 (ix2 f j) = ((B f j : ℝ) : EReal))
    (s : Fin 32) (b : Fin 8) (d : Fin 512)
    (h1 : ∀ e : Fin 512, x1 (ix2 s e) = A.pos (ix2 (tt ⟨s.val * 8 + b.val, by omega⟩) e)) :
    k0_pay17 (F := Ideal) (k0_pay11 x15) (k0_pay12 x16) (k0_pay15 (k0_pay4 x0 A.Wi x3) x15) (k0_pay16 (k0_pay4 x0 A.Wi x3) x16) x1 x17 x18
        (ix3 s b d)
      = bound A (bb ⟨s.val * 8 + b.val, by omega⟩) (tt ⟨s.val * 8 + b.val, by omega⟩) d := by
  unfold bound
  rw [← conv_fwd _ (fun e => A.pos (ix2 (tt ⟨s.val * 8 + b.val, by omega⟩) e)) (items_real hA _ _) (fun e => hA.pos _)]
  pointwise [k0_pay17, k0_pay11, k0_pay12, k0_pay15, k0_pay16, h15, h16, h17, h18]
  simp only [pay4_at h0 x3 h3, h1]
end bind

end Cert.KernelIdeal.Hand
-- ==== Proof.KArr0.lean ====
module

public import proofs.«01_k».proof.Proof.KBlocks0
public import proofs.«01_k».proof.Proof.KHost
public import proofs.«01_k».proof.Proof.PayA

/-! What the first call leaves. -/

@[expose] public section

set_option maxRecDepth 16384

noncomputable section

namespace Cert.KernelIdeal.Hand

open Idealize.ShloMosaic Idealize.ShloMosaic.TcCoe
open Cert.KernelIdeal Cert.KernelIdeal.Gen
open Cert.Spec Cert.Dft

variable (m : (ℓ : Loc nD τ sig) → Buf (Elt Ideal) ℓ) (c : Dev nD)

/-- the batch entry and the time of row `r` of point `t` -/
abbrev bb (r : Fin 256) : Fin 8 := ⟨r.val % 8, by omega⟩
abbrev tt (t : Fin cfg0.N) (r : Fin 256) : Fin 1024 :=
  ⟨32 * t.val + r.val / 8, by have := lt_of_lt_of_eq t.isLt N_0; omega⟩

theorem rows (t : Fin cfg0.N) : RowsOf (args m c) bb (tt t) (blk0 (in0 m) c 0 t) := fun r k => by
  rw [block0_0]; exact hs_t m c _ _ _

theorem bi_row (t : Fin cfg0.N) (d : Fin 512) : (blk0 (in0 m) c 3 t : FVec Ideal S1x512 .f32) (ix2 (0 : Fin 1) d) = (args m c).bi (ix1 d) := by
  rw [block0_3]; exact bi m c d
theorem bq_row (t : Fin cfg0.N) (d : Fin 1024) : (blk0 (in0 m) c 5 t : FVec Ideal S1x1024 .f32) (ix2 (0 : Fin 1) d) = (args m c).bq (ix1 d) := by
  rw [block0_5]; exact bq m c d
theorem bk1_row (t : Fin cfg0.N) (d : Fin 1024) : (blk0 (in0 m) c 7 t : FVec Ideal S1x1024 .f32) (ix2 (0 : Fin 1) d) = (args m c).bk1 (ix1 d) := by
  rw [block0_7]; exact bk1 m c d
theorem bk2_row (t : Fin cfg0.N) (d : Fin 512) : (blk0 (in0 m) c 9 t : FVec Ideal S1x512 .f32) (ix2 (0 : Fin 1) d) = (args m c).bk2 (ix1 d) := by
  rw [block0_9]; exact bk2 m c d

theorem Wg1_q_blk (t : Fin cfg0.N) (k j : Fin 1024) : (blk0 (in0 m) c 10 t : FVec Ideal S1024x1024 .f32) (ix2 k j) = (args m c).Wg1 (ix2 (⟨k.val, by omega⟩ : Fin 1552) j) := by
  rw [block0_10]; exact Wg1_q m c k j
theorem Wg1_i_blk (t : Fin cfg0.N) (k : Fin 512) (j : Fin 1024) : (blk0 (in0 m) c 11 t : FVec Ideal S512x1024 .f32) (ix2 k j) = (args m c).Wg1 (ix2 (⟨1024 + k.val, by omega⟩ : Fin 1552) j) := by
  rw [block0_11]; exact Wg1_i m c k j
theorem bg1_blk (t : Fin cfg0.N) (j : Fin 1024) : (blk0 (in0 m) c 12 t : FVec Ideal S1x1024 .f32) (ix2 (0 : Fin 1) j) = (args m c).bg1 (ix1 j) := by
  rw [block0_12]; exact bg1 m c j
theorem Wo_q_blk (t : Fin cfg0.N) (k j : Fin 1024) : (blk0 (in0 m) c 13 t : FVec Ideal S1024x1024 .f32) (ix2 k j) = (args m c).Wo (ix2 (⟨k.val, by omega⟩ : Fin 1536) j) := by
  rw [block0_13]; exact Wo_q m c k j
theorem bo_blk (t : Fin cfg0.N) (j : Fin 1024) : (blk0 (in0 m) c 14 t : FVec Ideal S1x1024 .f32) (ix2 (0 : Fin 1) j) = (args m c).bo (ix1 j) := by
  rw [block0_14]; exact bo m c j
theorem cos_blk (t : Fin cfg0.N) (j : Fin 512) (f : Fin 384) : (blk0 (in0 m) c 15 t : FVec Ideal S512x384 .f32) (ix2 j f) = ((C (j : ℕ) f : ℝ) : EReal) := by
  rw [block0_15]; exact cos_table m c j f
theorem sin_blk (t : Fin cfg0.N) (j : Fin 512) (f : Fin 384) : (blk0 (in0 m) c 16 t : FVec Ideal S512x384 .f32) (ix2 j f) = ((S (j : ℕ) f : ℝ) : EReal) := by
  rw [block0_16]; exact sin_table m c j f

/-- the gate's part that does not see the memory -/
def gate0 (A : Args) : FVec Ideal S1024x8x1024 .f32 := fun i =>
  ((∑ k : Fin 1024, qry A (i 1) (i 0) k * A.Wg1 (ix2 (⟨k.val, by omega⟩ : Fin 1552) (i 2)))
    + ∑ k : Fin 512, items A (i 1) (i 0) k * A.Wg1 (ix2 (⟨1024 + k.val, by omega⟩ : Fin 1552) (i 2))) + A.bg1 (ix1 (i 2))

/-- the output's part that does not see the memory -/
def outp0 (A : Args) : FVec Ideal S1024x8x1024 .f32 := fun i =>
  (∑ k : Fin 1024, qry A (i 1) (i 0) k * A.Wo (ix2 (⟨k.val, by omega⟩ : Fin 1536) (i 2))) + A.bo (ix1 (i 2))
/-- the bindings, and the keys' spectra -/
def bind0 (A : Args) : FVec Ideal S1024x8x512 .f32 := fun i => bound A (i 1) (i 0) (i 2)
def keyr0 (A : Args) : FVec Ideal S1024x8x384 .f32 := fun i => ∑ d : Fin 512, key A (i 1) (i 0) d * ((C (d : ℕ) (i 2).val : ℝ) : EReal)
def keyi0 (A : Args) : FVec Ideal S1024x8x384 .f32 := fun i => ∑ d : Fin 512, key A (i 1) (i 0) d * ((S (d : ℕ) (i 2).val : ℝ) : EReal)

theorem at_row (t : Fin cfg0.N) (s : Fin 32) (b : Fin 8) :
    bb ⟨s.val * 8 + b.val, by omega⟩ = b ∧ tt t ⟨s.val * 8 + b.val, by omega⟩ = ⟨32 * t.val + s.val, by have := lt_of_lt_of_eq t.isLt N_0; omega⟩ :=
  ⟨Fin.ext (by show (s.val * 8 + b.val) % 8 = b.val; omega), Fin.ext (by show 32 * t.val + (s.val * 8 + b.val) / 8 = _; simp only []; omega)⟩

theorem place0_19 : ∀ t : Fin cfg0.N, win0_19.index t = ![t.val, 0, 0] := (by decide +kernel : ∀ t : Fin grid0.N, _)
theorem emb0_19 (t : Fin cfg0.N) (G : FVec Ideal S1024x8x1024 .f32) (s : Fin 32) (b : Fin 8) (k : Fin 1024) :
    G (((cfg0.win 19).blk t).view.emb (ix3 s b k)) = G (ix3 (⟨32 * t.val + s.val, by have := lt_of_lt_of_eq t.isLt N_0; omega⟩ : Fin 1024) b k) := by
  blk_point [place0_19 t]
theorem place0_20 : ∀ t : Fin cfg0.N, win0_20.index t = ![t.val, 0, 0] := (by decide +kernel : ∀ t : Fin grid0.N, _)
theorem emb0_20 (t : Fin cfg0.N) (G : FVec Ideal S1024x8x1024 .f32) (s : Fin 32) (b : Fin 8) (k : Fin 1024) :
    G (((cfg0.win 20).blk t).view.emb (ix3 s b k)) = G (ix3 (⟨32 * t.val + s.val, by have := lt_of_lt_of_eq t.isLt N_0; omega⟩ : Fin 1024) b k) := by
  blk_point [place0_20 t]
theorem place0_21 : ∀ t : Fin cfg0.N, win0_21.index t = ![t.val, 0, 0] := (by decide +kernel : ∀ t : Fin grid0.N, _)
theorem emb0_21 (t : Fin cfg0.N) (G : FVec Ideal S1024x8x512 .f32) (s : Fin 32) (b : Fin 8) (k : Fin 512) :
    G (((cfg0.win 21).blk t).view.emb (ix3 s b k)) = G (ix3 (⟨32 * t.val + s.val, by have := lt_of_lt_of_eq t.isLt N_0; omega⟩ : Fin 1024) b k) := by
  blk_point [place0_21 t]
theorem place0_22 : ∀ t : Fin cfg0.N, win0_22.index t = ![t.val, 0, 0] := (by decide +kernel : ∀ t : Fin grid0.N, _)
theorem emb0_22 (t : Fin cfg0.N) (G : FVec Ideal S1024x8x384 .f32) (s : Fin 32) (b : Fin 8) (k : Fin 384) :
    G (((cfg0.win 22).blk t).view.emb (ix3 s b k)) = G (ix3 (⟨32 * t.val + s.val, by have := lt_of_lt_of_eq t.isLt N_0; omega⟩ : Fin 1024) b k) := by
  blk_point [place0_22 t]
theorem place0_23 : ∀ t : Fin cfg0.N, win0_23.index t = ![t.val, 0, 0] := (by decide +kernel : ∀ t : Fin grid0.N, _)
theorem emb0_23 (t : Fin cfg0.N) (G : FVec Ideal S1024x8x384 .f32) (s : Fin 32) (b : Fin 8) (k : Fin 384) :
    G (((cfg0.win 23).blk t).view.emb (ix3 s b k)) = G (ix3 (⟨32 * t.val + s.val, by have := lt_of_lt_of_eq t.isLt N_0; omega⟩ : Fin 1024) b k) := by
  blk_point [place0_23 t]

theorem gate0_point (t : Fin cfg0.N) (s : Fin 32) (b : Fin 8) (j : Fin 1024) :
    g0Blk (blk0 (in0 m) c 0 t) (blk0 (in0 m) c 2 t) (blk0 (in0 m) c 3 t) (blk0 (in0 m) c 4 t) (blk0 (in0 m) c 5 t) (blk0 (in0 m) c 10 t) (blk0 (in0 m) c 11 t) (blk0 (in0 m) c 12 t) (ix3 s b j)
      = gate0 (args m c) (ix3 (⟨32 * t.val + s.val, by have := lt_of_lt_of_eq t.isLt N_0; omega⟩ : Fin 1024) b j) := by
  unfold g0Blk gate0
  rw [block0_2, block0_4, first_arg2, first_arg4]
  refine (g0_at (rows m c t) _ (bi_row m c t) _ (bq_row m c t) _ _ _ s b j).trans ?_
  rw [(at_row t s b).1, (at_row t s b).2]
  simp only [Wg1_q_blk, Wg1_i_blk, bg1_blk]
  rfl

theorem gate0_array : (dat0 (in0 m) c).arrAt 19 cfg0.N = gate0 (args m c) := by
  refine (dat0 (in0 m) c).arrAt_eq_of_covers 19 _ (by decide +kernel) fun t _ y => ?_
  blk_simp
  rw [after0_19]
  idx_vars y
  exact (gate0_point m c t _ _ _).trans (emb0_19 t _ _ _ _).symm

theorem outp0_point (t : Fin cfg0.N) (s : Fin 32) (b : Fin 8) (j : Fin 1024) :
    o0Blk (blk0 (in0 m) c 0 t) (blk0 (in0 m) c 4 t) (blk0 (in0 m) c 5 t) (blk0 (in0 m) c 13 t) (blk0 (in0 m) c 14 t) (ix3 s b j)
      = outp0 (args m c) (ix3 (⟨32 * t.val + s.val, by have := lt_of_lt_of_eq t.isLt N_0; omega⟩ : Fin 1024) b j) := by
  unfold o0Blk outp0
  rw [block0_4, first_arg4]
  refine (o0_at (rows m c t) _ (bq_row m c t) _ _ s b j).trans ?_
  rw [(at_row t s b).1, (at_row t s b).2]
  simp only [Wo_q_blk, bo_blk]
  rfl

theorem outp0_array : (dat0 (in0 m) c).arrAt 20 cfg0.N = outp0 (args m c) := by
  refine (dat0 (in0 m) c).arrAt_eq_of_covers 20 _ (by decide +kernel) fun t _ y => ?_
  blk_simp
  rw [after0_20]
  idx_vars y
  exact (outp0_point m c t _ _ _).trans (emb0_20 t _ _ _ _).symm

theorem bind0_point (hA : Spec.Real (args m c)) (t : Fin cfg0.N) (s : Fin 32) (b : Fin 8) (j : Fin 512) :
    bndBlk (blk0 (in0 m) c 0 t) (blk0 (in0 m) c 1 t) (blk0 (in0 m) c 2 t) (blk0 (in0 m) c 3 t) (blk0 (in0 m) c 15 t) (blk0 (in0 m) c 16 t) (blk0 (in0 m) c 17 t) (blk0 (in0 m) c 18 t) (ix3 s b j)
      = bind0 (args m c) (ix3 (⟨32 * t.val + s.val, by have := lt_of_lt_of_eq t.isLt N_0; omega⟩ : Fin 1024) b j) := by
  unfold bndBlk bind0
  rw [block0_2, first_arg2]
  refine (bnd_at (rows m c t) _ (bi_row m c t) hA _ _ _ _ _ ?_ ?_ ?_ ?_ s b j ?_).trans ?_
  · intro j f; rw [block0_15]; exact cos_table m c j f
  · intro j f; rw [block0_16]; exact sin_table m c j f
  · intro f j; rw [block0_17]; exact re_table m c f j
  · intro f j; rw [block0_18]; exact im_table m c f j
  · intro e; rw [block0_1, first_arg1, (at_row t s b).2]
  · rw [(at_row t s b).1, (at_row t s b).2]
    rfl

theorem bind0_array (hA : Spec.Real (args m c)) : (dat0 (in0 m) c).arrAt 21 cfg0.N = bind0 (args m c) := by
  refine (dat0 (in0 m) c).arrAt_eq_of_covers 21 _ (by decide +kernel) fun t _ y => ?_
  blk_simp
  rw [after0_21]
  idx_vars y
  exact (bind0_point m c hA t _ _ _).trans (emb0_21 t _ _ _ _).symm

theorem keyr0_point (t : Fin cfg0.N) (s : Fin 32) (b : Fin 8) (j : Fin 384) :
    krBlk (blk0 (in0 m) c 0 t) (blk0 (in0 m) c 4 t) (blk0 (in0 m) c 5 t) (blk0 (in0 m) c 6 t) (blk0 (in0 m) c 7 t) (blk0 (in0 m) c 8 t) (blk0 (in0 m) c 9 t) (blk0 (in0 m) c 15 t) (ix3 s b j)
      = keyr0 (args m c) (ix3 (⟨32 * t.val + s.val, by have := lt_of_lt_of_eq t.isLt N_0; omega⟩ : Fin 1024) b j) := by
  unfold krBlk keyr0
  rw [block0_4, block0_6, block0_8, first_arg4, first_arg6, first_arg8]
  refine (kr_at (rows m c t) _ (bq_row m c t) _ (bk1_row m c t) _ (bk2_row m c t) _ s b j).trans ?_
  rw [(at_row t s b).1, (at_row t s b).2]
  simp only [cos_blk]
  rfl

theorem keyr0_array : (dat0 (in0 m) c).arrAt 22 cfg0.N = keyr0 (args m c) := by
  refine (dat0 (in0 m) c).arrAt_eq_of_covers 22 _ (by decide +kernel) fun t _ y => ?_
  blk_simp
  rw [after0_22]
  idx_vars y
  exact (keyr0_point m c t _ _ _).trans (emb0_22 t _ _ _ _).symm

theorem keyi0_point (t : Fin cfg0.N) (s : Fin 32) (b : Fin 8) (j : Fin 384) :
    kiBlk (blk0 (in0 m) c 0 t) (blk0 (in0 m) c 4 t) (blk0 (in0 m) c 5 t) (blk0 (in0 m) c 6 t) (blk0 (in0 m) c 7 t) (blk0 (in0 m) c 8 t) (blk0 (in0 m) c 9 t) (blk0 (in0 m) c 16 t) (ix3 s b j)
      = keyi0 (args m c) (ix3 (⟨32 * t.val + s.val, by have := lt_of_lt_of_eq t.isLt N_0; omega⟩ : Fin 1024) b j) := by
  unfold kiBlk keyi0
  rw [block0_4, block0_6, block0_8, first_arg4, first_arg6, first_arg8]
  refine (ki_at (rows m c t) _ (bq_row m c t) _ (bk1_row m c t) _ (bk2_row m c t) _ s b j).trans ?_
  rw [(at_row t s b).1, (at_row t s b).2]
  simp only [sin_blk]
  rfl

theorem keyi0_array : (dat0 (in0 m) c).arrAt 23 cfg0.N = keyi0 (args m c) := by
  refine (dat0 (in0 m) c).arrAt_eq_of_covers 23 _ (by decide +kernel) fun t _ y => ?_
  blk_simp
  rw [after0_23]
  idx_vars y
  exact (keyi0_point m c t _ _ _).trans (emb0_23 t _ _ _ _).symm

end Cert.KernelIdeal.Hand
-- ==== Proof.PayB.lean ====
module

public import proofs.«01_k».proof.Proof.Spec
public import proofs.«01_k».proof.Proof.Gen.KernelIdeal.Skeleton

/-! The second kernel's arithmetic at an index. -/

@[expose] public section

set_option maxRecDepth 16384

noncomputable section

namespace Cert.KernelIdeal.Hand

open Idealize.ShloMosaic Idealize.ShloMosaic.TcCoe
open Cert.KernelIdeal Cert.KernelIdeal.Gen
open Cert.Spec Cert.Dft

/-- one batch entry of the memory -/
abbrev memRow (h : FVec Ideal S8x16x512 .f32) (b : Fin 8) : Row := fun n d => h (ix3 b n d)

/-- rows of the gate's and the output's weights that meet the memory -/
abbrev ws (k : Fin 16) : Fin 1552 := ⟨1536 + k.val, by omega⟩
abbrev wc (k : Fin 512) : Fin 1536 := ⟨1024 + k.val, by omega⟩
/-- the gate's and the output's parts that do not see the memory -/
def gpart (A : Args) (b : Fin 8) (t : Fin 1024) (j : Fin 1024) : EReal :=
  ((∑ k : Fin 1024, qry A b t k * A.Wg1 (ix2 (⟨k.val, by omega⟩ : Fin 1552) j))
    + ∑ k : Fin 512, items A b t k * A.Wg1 (ix2 (⟨1024 + k.val, by omega⟩ : Fin 1552) j)) + A.bg1 (ix1 j)
def opart (A : Args) (b : Fin 8) (t : Fin 1024) (j : Fin 1024) : EReal :=
  (∑ k : Fin 1024, qry A b t k * A.Wo (ix2 (⟨k.val, by omega⟩ : Fin 1536) j)) + A.bo (ix1 j)

variable {A : Args} {b : Fin 8} {t : Fin 1024} (h : FVec Ideal S8x16x512 .f32)

section gate
variable (x7 : FVec Ideal S16x1024 .f32) (h7 : ∀ (k : Fin 16) (j : Fin 1024), x7 (ix2 k j) = A.Wg1 (ix2 (ws k) j))
    (g : FVec Ideal S1x8x1024 .f32)
    (hg : ∀ j : Fin 1024, g (ix3 (0 : Fin 1) b j) = gpart A b t j)
include h7 hg

theorem pay13_at (j : Fin 1024) : k1_pay13 (F := Ideal) (k1_pay3 x7) h g (ix2 b j) = gpre A b t (memRow h b) j := by
  pointwise [k1_pay13, k1_pay3, h7, hg]
  unfold gpre stats gpart
  ac_rfl

theorem pay14_at (j : Fin 1024) : k1_pay14 (F := Ideal) (k1_pay3 x7) h g (ix2 b j) = gelu (gpre A b t (memRow h b) j) := by
  rw [← gelu_pos]
  pointwise [k1_pay14, half, rt]
  simp only [pay13_at h x7 h7 g hg, Ideal.erf_def]

theorem tail1_at (j : Fin 1024) :
    k1_pay15 (F := Ideal) (k1_pay3 x7) h g (ix2 b j) * (1 - k1_pay16 (F := Ideal) (k1_pay3 x7) h g (ix2 b j))
      = gelu (gpre A b t (memRow h b) j) := by
  rw [← gelu_neg]
  pointwise [k1_pay15, k1_pay16, half, rt]
  simp only [pay13_at h x7 h7 g hg, Ideal.erf_def]

theorem next_at (x9 : FVec Ideal S1x16 .f32) (h9 : ∀ n : Fin 16, x9 (ix2 (0 : Fin 1) n) = A.bg2 (ix1 n))
    (bd : FVec Ideal S1x8x512 .f32) (hb : ∀ d : Fin 512, bd (ix3 (0 : Fin 1) b d) = bound A b t d) (n : Fin 16) (d : Fin 512) :
    k1_pay18 (F := Ideal) (k1_pay4 A.Wg2) h (k1_pay13 (k1_pay3 x7) h g) (k1_pay14 (k1_pay3 x7) h g) (k1_pay15 (k1_pay3 x7) h g)
      (k1_pay16 (k1_pay3 x7) h g) k1_pay17 x9 bd (ix3 b n d) = next A b t (memRow h b) n d := by
  unfold next gate
  pointwise [k1_pay18, k1_pay17, k1_pay4, decay, h9, hb]
  simp only [pay14_at h x7 h7 g hg, tail1_at h x7 h7 g hg, ite_self]
end gate

section read
variable (x11 x12 : FVec Ideal S512x384 .f32) (x13 x14 : FVec Ideal S384x512 .f32)
    (h11 : ∀ (j : Fin 512) (f : Fin 384), x11 (ix2 j f) = ((C (j : ℕ) f : ℝ) : EReal))
    (h12 : ∀ (j : Fin 512) (f : Fin 384), x12 (ix2 j f) = ((S (j : ℕ) f : ℝ) : EReal))
    (h13 : ∀ (f : Fin 384) (j : Fin 512), x13 (ix2 f j) = ((Dft.A f j : ℝ) : EReal))
    (h14 : ∀ (f : Fin 384) (j : Fin 512), x14 (ix2 f j) = ((B f j : ℝ) : EReal))
    (kr ki : FVec Ideal S1x8x384 .f32)
    (hr : ∀ f : Fin 384, kr (ix3 (0 : Fin 1) b f) = ∑ d : Fin 512, key A b t d * ((C (d : ℕ) f : ℝ) : EReal))
    (hi : ∀ f : Fin 384, ki (ix3 (0 : Fin 1) b f) = ∑ d : Fin 512, key A b t d * ((S (d : ℕ) f : ℝ) : EReal))
    (hA : Spec.Real A) (hh : ∀ n d, IsR (memRow h b n d))
include h11 h12 h13 h14 hr hi hA hh

theorem ret_at (n : Fin 16) (e : Fin 512) :
    k1_pay10 (F := Ideal) (k1_pay5 x11) (k1_pay6 x12) (k1_pay7 x13) (k1_pay8 x14) kr ki h (ix3 b n e) = ret A b t (memRow h b) n e := by
  unfold ret
  rw [← conv_bwd (fun d => memRow h b n d) (key A b t) (hh n) (key_real hA b t)]
  pointwise [k1_pay10, k1_pay5, k1_pay6, k1_pay7, k1_pay8, h11, h12, h13, h14, hr, hi]

variable (x15 : FVec Ideal S1x512 .f32) (h15 : ∀ e : Fin 512, x15 (ix2 (0 : Fin 1) e) = A.Wsa (ix2 e (0 : Fin 1)))
include h15

theorem ex_at (n : Fin 16) :
    k1_pay11 (F := Ideal) (k1_pay2 x15) (k1_pay5 x11) (k1_pay6 x12) (k1_pay7 x13) (k1_pay8 x14) kr ki h (ix2 b n)
      = ex A b t (memRow h b) n := by
  unfold ex score low
  pointwise [k1_pay11, k1_pay2, h15]
  simp only [ret_at h x11 x12 x13 x14 h11 h12 h13 h14 kr ki hr hi hA hh]

variable (x2 : FVec Ideal S1x8x1024 .f32) (x10 : FVec Ideal S512x1024 .f32)
    (h2 : ∀ j : Fin 1024, x2 (ix3 (0 : Fin 1) b j) = opart A b t j)
    (h10 : ∀ (k : Fin 512) (j : Fin 1024), x10 (ix2 k j) = A.Wo (ix2 (wc k) j))
include h2 h10

theorem lin_at (j : Fin 1024) :
    k1_pay12 (F := Ideal) (k1_pay10 (k1_pay5 x11) (k1_pay6 x12) (k1_pay7 x13) (k1_pay8 x14) kr ki h)
        (k1_pay11 (k1_pay2 x15) (k1_pay5 x11) (k1_pay6 x12) (k1_pay7 x13) (k1_pay8 x14) kr ki h) x2 x10 (ix2 b j)
      = lin A b t (memRow h b) j := by
  unfold lin ctx
  pointwise [k1_pay12, h2, h10]
  simp only [ret_at h x11 x12 x13 x14 h11 h12 h13 h14 kr ki hr hi hA hh,
    ex_at h x11 x12 x13 x14 h11 h12 h13 h14 kr ki hr hi hA hh x15 h15]
  unfold opart
  ac_rfl
end read

section norm
variable (v : FVec Ideal S8x1024 .f32) (hv : ∀ j : Fin 1024, v (ix2 b j) = lin A b t (memRow h b) j)
    (x3 : FVec Ideal S1x8x1024 .f32) (h3 : ∀ j : Fin 1024, x3 (ix3 (0 : Fin 1) b j) = A.hs (ix3 b t j))
include hv h3

theorem xc_at (j : Fin 1024) : k1_pay19 (F := Ideal) v x3 (ix2 b j) = xc A b t (memRow h b) j := by
  unfold xc xr cnt
  pointwise [k1_pay19, h3, hv]

theorem var_at : k1_pay20 (F := Ideal) v x3 (ix2 b (0 : Fin 1)) = var A b t (memRow h b) := by
  unfold var cnt
  pointwise [k1_pay20]
  simp only [xc_at h v hv x3 h3]

theorem out_at (x16 x17 : FVec Ideal S1x1024 .f32) (h16 : ∀ j : Fin 1024, x16 (ix2 (0 : Fin 1) j) = A.lg (ix1 j))
    (h17 : ∀ j : Fin 1024, x17 (ix2 (0 : Fin 1) j) = A.lb (ix1 j)) (j : Fin 1024) :
    k1_pay9 (F := Ideal) (k1_pay19 v x3) (k1_pay20 v x3) (Scalar.ofBits .f32 0x3727C5AC#32) x16 x17 (ix3 (0 : Fin 1) b j)
      = out A b t (memRow h b) j := by
  unfold out
  rw [← mul_rsqrt _ _ (var_nonneg A b t _)]
  pointwise [k1_pay9, eps, h16, h17]
  simp only [xc_at h v hv x3 h3, var_at h v hv x3 h3]
end norm

end Cert.KernelIdeal.Hand
-- ==== Proof.KArr1.lean ====
module

public import proofs.«01_k».proof.Proof.KBlocks1
public import proofs.«01_k».proof.Proof.KArr0
public import proofs.«01_k».proof.Proof.PayB

/-! What the second call leaves. -/

@[expose] public section

set_option maxRecDepth 16384

noncomputable section

namespace Cert.KernelIdeal.Hand

open Idealize.ShloMosaic Idealize.ShloMosaic.TcCoe
open Cert.KernelIdeal Cert.KernelIdeal.Gen
open Cert.Spec Cert.Dft

theorem off1_eq : ∀ k : Fin k1_t1_loop.trips, k1_off1 k = ![k.val, 0, 0] := by decide
theorem off3_eq : ∀ k : Fin k1_t1_loop.trips, k1_off3 k = ![k.val, 0, 0] := by decide

section rowsOf
variable (k : Fin k1_t1_loop.trips) (b : Fin 8)
theorem row1024_at (x : FVec Ideal S16x8x1024 .f32) (j : Fin 1024) :
    row1024 (F := Ideal) x k (ix3 (0 : Fin 1) b j) = x (ix3 (⟨k.val, lt_of_lt_of_eq k.isLt trips_eq⟩ : Fin 16) b j) := by
  exact congrArg x (funext fun a => Fin.ext (by
    match a with
    | 0 => simp [LoadRect.idx, Rect.unit, off2_eq k]
    | 1 => simp [LoadRect.idx, Rect.unit, off2_eq k]
    | 2 => simp [LoadRect.idx, Rect.unit, off2_eq k]))
theorem row512_at (x : FVec Ideal S16x8x512 .f32) (j : Fin 512) :
    row512 (F := Ideal) x k (ix3 (0 : Fin 1) b j) = x (ix3 (⟨k.val, lt_of_lt_of_eq k.isLt trips_eq⟩ : Fin 16) b j) := by
  exact congrArg x (funext fun a => Fin.ext (by
    match a with
    | 0 => simp [LoadRect.idx, Rect.unit, off3_eq k]
    | 1 => simp [LoadRect.idx, Rect.unit, off3_eq k]
    | 2 => simp [LoadRect.idx, Rect.unit, off3_eq k]))
theorem row384_at (x : FVec Ideal S16x8x384 .f32) (j : Fin 384) :
    row384 (F := Ideal) x k (ix3 (0 : Fin 1) b j) = x (ix3 (⟨k.val, lt_of_lt_of_eq k.isLt trips_eq⟩ : Fin 16) b j) := by
  exact congrArg x (funext fun a => Fin.ext (by
    match a with
    | 0 => simp [LoadRect.idx, Rect.unit, off1_eq k]
    | 1 => simp [LoadRect.idx, Rect.unit, off1_eq k]
    | 2 => simp [LoadRect.idx, Rect.unit, off1_eq k]))
end rowsOf

variable (m : (ℓ : Loc nD τ sig) → Buf (Elt Ideal) ℓ) (c : Dev nD) (t : Fin cfg1.N)

/-- the time of step `k` of point `t` -/
abbrev at1 (k : Fin 16) : Fin 1024 := ⟨16 * t.val + k.val, by have := lt_of_lt_of_eq t.isLt N_1; omega⟩

theorem gate_in (t : Fin cfg1.N) (k : Fin 16) (b : Fin 8) (j : Fin 1024) : (blk1 (in1 m) c 0 t : FVec Ideal S16x8x1024 .f32) (ix3 k b j) = gate0 (args m c) (ix3 (at1 t k) b j) := by
  rw [block1_0]; exact congrFun ((made_0 m c).trans (gate0_array m c)) _
theorem outp_in (t : Fin cfg1.N) (k : Fin 16) (b : Fin 8) (j : Fin 1024) : (blk1 (in1 m) c 1 t : FVec Ideal S16x8x1024 .f32) (ix3 k b j) = outp0 (args m c) (ix3 (at1 t k) b j) := by
  rw [block1_1]; exact congrFun ((made_1 m c).trans (outp0_array m c)) _
theorem hs_in (t : Fin cfg1.N) (k : Fin 16) (b : Fin 8) (j : Fin 1024) : (blk1 (in1 m) c 2 t : FVec Ideal S16x8x1024 .f32) (ix3 k b j) = (args m c).hs (ix3 b (at1 t k) j) := by
  rw [block1_2]; exact (congrFun (kept_v49 m c) _).trans (hs_t m c _ _ _)
theorem bind_in (t : Fin cfg1.N) (hA : Spec.Real (args m c)) (k : Fin 16) (b : Fin 8) (d : Fin 512) : (blk1 (in1 m) c 3 t : FVec Ideal S16x8x512 .f32) (ix3 k b d) = bound (args m c) b (at1 t k) d := by
  rw [block1_3]; exact congrFun ((made_2 m c).trans (bind0_array m c hA)) _
theorem keyr_in (t : Fin cfg1.N) (k : Fin 16) (b : Fin 8) (f : Fin 384) : (blk1 (in1 m) c 4 t : FVec Ideal S16x8x384 .f32) (ix3 k b f) = keyr0 (args m c) (ix3 (at1 t k) b f) := by
  rw [block1_4]; exact congrFun ((made_3 m c).trans (keyr0_array m c)) _
theorem keyi_in (t : Fin cfg1.N) (k : Fin 16) (b : Fin 8) (f : Fin 384) : (blk1 (in1 m) c 5 t : FVec Ideal S16x8x384 .f32) (ix3 k b f) = keyi0 (args m c) (ix3 (at1 t k) b f) := by
  rw [block1_5]; exact congrFun ((made_4 m c).trans (keyi0_array m c)) _
theorem Wg1_s_in (t : Fin cfg1.N) (k : Fin 16) (j : Fin 1024) : (blk1 (in1 m) c 6 t : FVec Ideal S16x1024 .f32) (ix2 k j) = (args m c).Wg1 (ix2 (ws k) j) := by
  rw [block1_6]; exact Wg1_s m c k j
theorem bg2_in (t : Fin cfg1.N) (n : Fin 16) : (blk1 (in1 m) c 8 t : FVec Ideal S1x16 .f32) (ix2 (0 : Fin 1) n) = (args m c).bg2 (ix1 n) := by
  rw [block1_8]; exact bg2 m c n
theorem Wo_c_in (t : Fin cfg1.N) (k : Fin 512) (j : Fin 1024) : (blk1 (in1 m) c 9 t : FVec Ideal S512x1024 .f32) (ix2 k j) = (args m c).Wo (ix2 (wc k) j) := by
  rw [block1_9]; exact Wo_c m c k j
theorem cos_in (t : Fin cfg1.N) (j : Fin 512) (f : Fin 384) : (blk1 (in1 m) c 10 t : FVec Ideal S512x384 .f32) (ix2 j f) = ((C (j : ℕ) f : ℝ) : EReal) := by
  rw [block1_10]; exact (congrFun (kept_v15 m c) _).trans (cos_table m c j f)
theorem sin_in (t : Fin cfg1.N) (j : Fin 512) (f : Fin 384) : (blk1 (in1 m) c 11 t : FVec Ideal S512x384 .f32) (ix2 j f) = ((S (j : ℕ) f : ℝ) : EReal) := by
  rw [block1_11]; exact (congrFun (kept_v17 m c) _).trans (sin_table m c j f)
theorem re_in (t : Fin cfg1.N) (f : Fin 384) (d : Fin 512) : (blk1 (in1 m) c 12 t : FVec Ideal S384x512 .f32) (ix2 f d) = ((Dft.A f d : ℝ) : EReal) := by
  rw [block1_12]; exact (congrFun (kept_v43 m c) _).trans (re_table m c f d)
theorem im_in (t : Fin cfg1.N) (f : Fin 384) (d : Fin 512) : (blk1 (in1 m) c 13 t : FVec Ideal S384x512 .f32) (ix2 f d) = ((B f d : ℝ) : EReal) := by
  rw [block1_13]; exact (congrFun (kept_v48 m c) _).trans (im_table m c f d)
theorem Wsa_in (t : Fin cfg1.N) (e : Fin 512) : (blk1 (in1 m) c 14 t : FVec Ideal S1x512 .f32) (ix2 (0 : Fin 1) e) = (args m c).Wsa (ix2 e (0 : Fin 1)) := by
  rw [block1_14]; exact Wsa_t m c e
theorem ln_g_in (t : Fin cfg1.N) (j : Fin 1024) : (blk1 (in1 m) c 15 t : FVec Ideal S1x1024 .f32) (ix2 (0 : Fin 1) j) = (args m c).lg (ix1 j) := by
  rw [block1_15]; exact ln_g m c j
theorem ln_b_in (t : Fin cfg1.N) (j : Fin 1024) : (blk1 (in1 m) c 16 t : FVec Ideal S1x1024 .f32) (ix2 (0 : Fin 1) j) = (args m c).lb (ix1 j) := by
  rw [block1_16]; exact ln_b m c j

section point
variable (hA : Spec.Real (args m c))
include hA

/-- the memory after a step -/
theorem step_at (k : Fin k1_t1_loop.trips) (h : FVec Ideal S8x16x512 .f32) (b : Fin 8) (n : Fin 16) (d : Fin 512) :
    hNext (F := Ideal) (blk1 (in1 m) c 0 t) (blk1 (in1 m) c 3 t) (blk1 (in1 m) c 6 t) (blk1 (in1 m) c 7 t) (blk1 (in1 m) c 8 t) k h (ix3 b n d)
      = next (args m c) b (at1 t ⟨k.val, lt_of_lt_of_eq k.isLt trips_eq⟩) (memRow h b) n d := by
  unfold hNext
  rw [block1_7, second_arg14]
  refine next_at h _ (Wg1_s_in m c t) _ ?_ _ (bg2_in m c t) _ ?_ n d
  · intro j
    rw [row1024_at, gate_in]
    rfl
  · intro d
    rw [row512_at, bind_in m c t hA]

theorem hAt_at (h : FVec Ideal S8x16x512 .f32) (hh : ∀ b n d, h (ix3 b n d) = state (args m c) (16 * t.val) b n d) :
    ∀ k : ℕ, k ≤ 16 → ∀ b n d,
      hAt (F := Ideal) (blk1 (in1 m) c 0 t) (blk1 (in1 m) c 3 t) (blk1 (in1 m) c 6 t) (blk1 (in1 m) c 7 t) (blk1 (in1 m) c 8 t) h k (ix3 b n d)
        = state (args m c) (16 * t.val + k) b n d
  | 0, _, b, n, d => hh b n d
  | k + 1, hk, b, n, d => by
    have ht := lt_of_lt_of_eq t.isLt N_1
    have ih := hAt_at h hh k (Nat.le_of_succ_le hk)
    have hs := hAt_succ (F := Ideal) (blk1 (in1 m) c 0 t) (blk1 (in1 m) c 3 t) (blk1 (in1 m) c 6 t) (blk1 (in1 m) c 7 t) (blk1 (in1 m) c 8 t) h
      ⟨k, lt_of_lt_of_eq hk trips_eq.symm⟩
    have hr : memRow (hAt (F := Ideal) (blk1 (in1 m) c 0 t) (blk1 (in1 m) c 3 t) (blk1 (in1 m) c 6 t) (blk1 (in1 m) c 7 t) (blk1 (in1 m) c 8 t) h k) b
        = state (args m c) (16 * t.val + k) b := funext fun n => funext fun d => ih b n d
    rw [show 16 * t.val + (k + 1) = (16 * t.val + k) + 1 from rfl, state_succ (args m c) (16 * t.val + k) (by omega)]
    refine (congrFun hs _).trans ((step_at m c t hA ⟨k, lt_of_lt_of_eq hk trips_eq.symm⟩ _ b n d).trans ?_)
    rw [hr]

theorem memAt_at : ∀ n : ℕ, n ≤ 64 → ∀ b j d, memAt (F := Ideal) (in1 m) c n (ix3 b j d) = state (args m c) (16 * n) b j d
  | 0, _, b, j, d => by
    show k1_pay1 (F := Ideal) (ix3 b j d) = 0
    pointwise [k1_pay1]
  | n + 1, hn, b, j, d => by
    have hn' : n < cfg1.N := lt_of_lt_of_eq hn N_1.symm
    refine (congrFun (memAt_succ (F := Ideal) (in1 m) c ⟨n, hn'⟩) _).trans ?_
    exact hAt_at m c ⟨n, hn'⟩ hA _ (memAt_at n (Nat.le_of_succ_le hn)) 16 le_rfl b j d

/-- the result row of a step -/
theorem row_at (k : Fin k1_t1_loop.trips) (h : FVec Ideal S8x16x512 .f32) (b : Fin 8) (hh : ∀ n d, IsR (memRow h b n d)) (j : Fin 1024) :
    oRow (F := Ideal) (blk1 (in1 m) c 1 t) (blk1 (in1 m) c 2 t) (blk1 (in1 m) c 4 t) (blk1 (in1 m) c 5 t) (blk1 (in1 m) c 9 t) (blk1 (in1 m) c 10 t)
        (blk1 (in1 m) c 11 t) (blk1 (in1 m) c 12 t) (blk1 (in1 m) c 13 t) (blk1 (in1 m) c 14 t) (blk1 (in1 m) c 15 t) (blk1 (in1 m) c 16 t) k h
        (ix3 (0 : Fin 1) b j)
      = out (args m c) b (at1 t ⟨k.val, lt_of_lt_of_eq k.isLt trips_eq⟩) (memRow h b) j := by
  unfold oRow vRow
  refine out_at h _ ?_ _ ?_ _ _ (ln_g_in m c t) (ln_b_in m c t) j
  · refine lin_at h _ _ _ _ (cos_in m c t) (sin_in m c t) (re_in m c t) (im_in m c t) _ _ ?_ ?_ hA hh _ (Wsa_in m c t) _ _ ?_ (Wo_c_in m c t)
    · intro f
      rw [row384_at, keyr_in]
      rfl
    · intro f
      rw [row384_at, keyi_in]
      rfl
    · intro j
      rw [row1024_at, outp_in]
      rfl
  · intro j
    rw [row1024_at, hs_in]

theorem outBlk_at (s : Fin 16) (b : Fin 8) (j : Fin 1024) :
    outBlk (F := Ideal) (in1 m) c t (memAt (in1 m) c t.val) (ix3 s b j)
      = out (args m c) b (at1 t s) (state (args m c) (at1 t s).val b) j := by
  have ht := lt_of_lt_of_eq t.isLt N_1
  have hr : memRow (hAt (F := Ideal) (blk1 (in1 m) c 0 t) (blk1 (in1 m) c 3 t) (blk1 (in1 m) c 6 t) (blk1 (in1 m) c 7 t) (blk1 (in1 m) c 8 t)
      (memAt (in1 m) c t.val) s.val) b = state (args m c) (at1 t s).val b :=
    funext fun n => funext fun d => hAt_at m c t hA _ (memAt_at m c hA t.val (le_of_lt ht)) s.val (le_of_lt s.isLt) b n d
  have hi : rowIdx (ix3 s b j) = ix3 (0 : Fin 1) b j := by
    funext a; match a with
    | 0 => rfl
    | 1 => rfl
    | 2 => rfl
  show oRow (F := Ideal) _ _ _ _ _ _ _ _ _ _ _ _ ⟨s.val, lt_of_lt_of_eq s.isLt trips_eq.symm⟩ _ (rowIdx (ix3 s b j)) = _
  rw [hi]
  have hR : ∀ n d, IsR (memRow (hAt (F := Ideal) (blk1 (in1 m) c 0 t) (blk1 (in1 m) c 3 t) (blk1 (in1 m) c 6 t) (blk1 (in1 m) c 7 t)
      (blk1 (in1 m) c 8 t) (memAt (in1 m) c t.val) s.val) b n d) := fun n d => by
    rw [hr]; exact state_real hA _ _ _ _
  exact (row_at m c t hA ⟨s.val, lt_of_lt_of_eq s.isLt trips_eq.symm⟩ _ b hR j).trans (by rw [hr])

/-- the two results -/
def outs1 (A : Args) : FVec Ideal S1024x8x1024 .f32 := fun i => out A (i 1) (i 0) (state A (i 0).val (i 1)) (i 2)
def mem1024 (A : Args) : FVec Ideal S8x16x512 .f32 := fun i => state A 1024 (i 0) (i 1) (i 2)

omit hA in
theorem place1_17 : ∀ t : Fin cfg1.N, win1_17.index t = ![t.val, 0, 0] := (by decide +kernel : ∀ t : Fin grid1.N, _)
omit hA in
theorem place1_18 : ∀ t : Fin cfg1.N, win1_18.index t = ![0, 0, 0] := (by decide +kernel : ∀ t : Fin grid1.N, _)
omit hA in
theorem emb1_17 (G : FVec Ideal S1024x8x1024 .f32) (s : Fin 16) (b : Fin 8) (k : Fin 1024) :
    G (((cfg1.win 17).blk t).view.emb (ix3 s b k)) = G (ix3 (at1 t s) b k) := by
  blk_point [place1_17 t]
omit hA in
theorem emb1_18 (G : FVec Ideal S8x16x512 .f32) (b : Fin 8) (n : Fin 16) (d : Fin 512) :
    G (((cfg1.win 18).blk t).view.emb (ix3 b n d)) = G (ix3 b n d) := by
  blk_point [place1_18 t]
omit hA in
theorem last1_18 : ∀ t : Fin cfg1.N, win1_18.flush t = true → t.val = 63 := (by decide +kernel : ∀ t : Fin grid1.N, _)

theorem outs1_array : (dat1 (in1 m) c).arrAt 17 cfg1.N = outs1 (args m c) := by
  refine (dat1 (in1 m) c).arrAt_eq_of_covers 17 _ (by decide +kernel) fun t _ y => ?_
  blk_simp
  rw [after1_17]
  idx_vars y
  refine Eq.trans ?_ (emb1_17 t (outs1 (args m c)) _ _ _).symm
  exact outBlk_at m c t hA _ _ _

theorem mem1024_array : (dat1 (in1 m) c).arrAt 18 cfg1.N = mem1024 (args m c) := by
  refine (dat1 (in1 m) c).arrAt_eq_of_covers 18 _ (by decide +kernel) fun t hf y => ?_
  have ht := last1_18 t hf
  blk_simp
  rw [after1_18]
  idx_vars y
  refine Eq.trans ?_ (emb1_18 t (mem1024 (args m c)) _ _ _).symm
  refine (hAt_at m c t hA _ (memAt_at m c hA t.val (by omega)) 16 le_rfl _ _ _).trans ?_
  rw [ht]
  rfl
end point

end Cert.KernelIdeal.Hand
-- ==== Proof.KFinal.lean ====
module

public import proofs.«01_k».proof.Proof.IRun
public import proofs.«01_k».proof.Proof.KArr1
public import Idealize.ShloMosaic.Lib.StableHlo.RunRead

/-! The kernel's two results at its exit. -/

@[expose] public section

set_option maxRecDepth 16384

noncomputable section

namespace Cert.KernelIdeal.Hand

open Idealize.ShloMosaic Idealize.ShloMosaic.TcCoe
open Cert.KernelIdeal Cert.KernelIdeal.Gen
open Cert.Spec

theorem turned_at (W : Valuation τ sig (Elt Ideal)) (b : Fin 8) (t : Fin 1024) (j : Fin 1024) :
    (StableHlo.after (hostOps2 (F := Ideal)) W main_v67 : FVec Ideal S8x1024x1024 .f32) (ix3 b t j)
      = (W main_v66_0 : FVec Ideal S1024x8x1024 .f32) (ix3 t b j) := by
  after_reads_simp
  pointwise []

variable (m : (ℓ : Loc nD τ sig) → Buf (Elt Ideal) ℓ) (c : Dev nD) (hA : Spec.Real (args m c))
include hA

theorem final0 (b : Fin 8) (t : Fin 1024) (j : Fin 1024) :
    (V5 m (outs m) c main_v67 : FVec Ideal S8x1024x1024 .f32) (ix3 b t j)
      = out (args m c) b t (state (args m c) t.val b) j := by
  refine (turned_at _ b t j).trans ?_
  have h : V4 m (outs m) c main_v66_0 = outs1 (args m c) := by
    refine (Function.update_of_ne (StableHlo.devRef_ne_of_ne (by decide)) _ _).trans ?_
    refine (Function.update_self _ _ _).trans ?_
    exact (outs_second m main_v66_0 c).trans ((left1_0 m c).trans (outs1_array m c hA))
  exact congrFun h (ix3 t b j)

theorem final1 : (V5 m (outs m) c main_v66_1 : FVec Ideal S8x16x512 .f32) = mem1024 (args m c) := by
  refine (V5_of m (outs m) c main_v66_1 (by decide)).trans ?_
  refine (Function.update_self _ _ _).trans ?_
  exact (outs_second m main_v66_1 c).trans ((left1_1 m c).trans (mem1024_array m c hA))

end Cert.KernelIdeal.Hand
-- ==== Proof.RBase.lean ====
module

public import proofs.«01_k».proof.Proof.Spec
public import proofs.«01_k».proof.Proof.Gen.ReferenceIdeal.Run
public import Idealize.ShloMosaic.Lib.DynamicIndex
public import Idealize.ShloMosaic.Lib.ValueIdxCore

/-! The pieces of the reference read at an index: the tables of circulant rows, the rows a trip slices, the sums. -/

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Value
open Cert.Spec Cert.Dft

/-- the dimension numbers of a table of rows: every row of `x` at the positions of a square of indices -/
abbrev tabDims (N : Nat)
    (wf : GatherDims.WF ⟨2, ![N, 512]⟩ ⟨3, ![512, 512, 1]⟩ ⟨3, ![N, 512, 512]⟩ [0] [1] [] [1] [] 2 ![N, 1]) :
    GatherDims ⟨2, ![N, 512]⟩ ⟨3, ![512, 512, 1]⟩ ⟨3, ![N, 512, 512]⟩ where
  offsetDims := [0]
  collapsedSliceDims := [1]
  operandBatchingDims := []
  startIndicesBatchingDims := []
  startIndexMap := [1]
  indexVectorDim := 2
  sliceSizes := ![N, 1]
  wf := wf

theorem tab_at {α : Type} {N : Nat}
    (wf : GatherDims.WF ⟨2, ![N, 512]⟩ ⟨3, ![512, 512, 1]⟩ ⟨3, ![N, 512, 512]⟩ [0] [1] [] [1] [] 2 ![N, 1])
    (x : (⟨2, ![N, 512]⟩ : Shape).Idx → α) (idx : IVec ⟨3, ![512, 512, 1]⟩ 32) (b : Fin N) (d e : Fin 512)
    (j : Fin 512) (hj : (idx (ix3 d e (0 : Fin 1))).toInt.toNat = j.val) :
    Host.gather (tabDims N wf) x idx (ix3 b d e) = x (ix2 b j) := by
  unfold Host.gather
  congr 1
  funext a
  refine Fin.ext ?_
  show (tabDims N wf).start (ix3 b d e) idx a + (tabDims N wf).batchCoord (ix3 b d e) a
      + (tabDims N wf).offCoord (ix3 b d e) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (show (0 : Fin 2) ∉ (tabDims N wf).startIndexMap from by simp)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (tabDims N wf).startIndexMap from List.mem_singleton.mpr rfl)]
    have hsi : (tabDims N wf).siIdx (ix3 b d e) ⟨List.idxOf (1 : Fin 2) (tabDims N wf).startIndexMap,
        List.idxOf_lt_length_iff.2 (List.mem_singleton.mpr rfl)⟩ = ix3 d e (0 : Fin 1) := by
      funext b; refine Fin.ext ?_
      match b with
      | ⟨0, _⟩ => rfl
      | ⟨1, _⟩ => rfl
      | ⟨2, _⟩ => rfl
    rw [hsi]
    show min (idx (ix3 d e (0 : Fin 1))).toInt.toNat (512 - 1) = j.val
    rw [hj]; omega

theorem small_word (n : Nat) (h : n < 2147483648) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- the square of cyclic differences -/
abbrev diffs : IVec S512x512 32 :=
  select (cmpi .sge (iotaInDim S512x512 32 1) (iotaInDim S512x512 32 0))
    (subi (iotaInDim S512x512 32 1) (iotaInDim S512x512 32 0))
    (addi (subi (iotaInDim S512x512 32 1) (iotaInDim S512x512 32 0))
      (broadcastInDim S512x512 ![] bcast_S_S512x512 (constantI S_ 32 512#32)))

theorem diffs_word (d e : Fin 512) :
    (Scalar.select (IntOp.cmpi .sge (BitVec.ofNat 32 e.val) (BitVec.ofNat 32 d.val))
      (BitVec.ofNat 32 e.val - BitVec.ofNat 32 d.val)
      (BitVec.ofNat 32 e.val - BitVec.ofNat 32 d.val + 512#32)).toInt.toNat = (cyc e d).val := by
  have he := e.isLt
  have hd := d.isLt
  have hte : (BitVec.ofNat 32 e.val).toInt = e.val := small_word _ (by omega)
  have htd : (BitVec.ofNat 32 d.val).toInt = d.val := small_word _ (by omega)
  by_cases h : d.val ≤ e.val
  · have h1 : IntOp.cmpi .sge (BitVec.ofNat 32 e.val) (BitVec.ofNat 32 d.val) = 1#1 := by
      simp only [IntOp.cmpi, BitVec.sle, hte, htd]
      rw [decide_eq_true (by omega)]; rfl
    rw [h1]
    show (BitVec.ofNat 32 e.val - BitVec.ofNat 32 d.val).toInt.toNat = _
    rw [show (cyc e d).val = e.val - d.val from if_pos h, BitVec.toInt_sub, hte, htd, Int.bmod_def]
    omega
  · have h1 : IntOp.cmpi .sge (BitVec.ofNat 32 e.val) (BitVec.ofNat 32 d.val) = 0#1 := by
      simp only [IntOp.cmpi, BitVec.sle, hte, htd]
      rw [decide_eq_false (by omega)]; rfl
    rw [h1]
    show (BitVec.ofNat 32 e.val - BitVec.ofNat 32 d.val + 512#32).toInt.toNat = _
    have h5 : (512#32 : BitVec 32).toInt = 512 := by decide
    rw [show (cyc e d).val = e.val + 512 - d.val from if_neg h, BitVec.toInt_add, BitVec.toInt_sub, hte, htd, h5, Int.bmod_def, Int.bmod_def]
    omega

theorem diffs_at (d e : Fin 512) :
    ((broadcastInDim S512x512x1 ![0, 1] bcast_S512x512_S512x512x1_0_1 diffs) (ix3 d e (0 : Fin 1))).toInt.toNat
      = (cyc e d).val := by
  rw [← diffs_word d e]
  congr 2

theorem tab8_at (x : FVec Ideal S8x512 .f32) (b : Fin 8) (d e : Fin 512) :
    Host.gather gather_S8x512_S512x512x1_S8x512x512_0_1_n_n_1_2_81 x
      (broadcastInDim S512x512x1 ![0, 1] bcast_S512x512_S512x512x1_0_1 diffs) (ix3 b d e) = x (ix2 b (cyc e d)) :=
  tab_at _ x _ b d e _ (diffs_at d e)

theorem tab1024_at (x : FVec Ideal S1024x512 .f32) (t : Fin 1024) (d e : Fin 512) :
    Host.gather gather_S1024x512_S512x512x1_S1024x512x512_0_1_n_n_1_2_10241 x
      (broadcastInDim S512x512x1 ![0, 1] bcast_S512x512_S512x512x1_0_1 diffs) (ix3 t d e) = x (ix2 t (cyc e d)) :=
  tab_at _ x _ t d e _ (diffs_at d e)

/-! ## A trip's rows -/

section rows
variable (c : (⟨S_, .i32⟩ : BufTy).Contents (Elt Ideal)) (t : Fin 1024) (hc : c = fun _ => BitVec.ofNat 32 t.val)
include hc

theorem start_eq (a : Fin 3) :
    (((![c, constantI S_ 32 0#32, constantI S_ 32 0#32] : Fin 3 → (⟨S_, .i32⟩ : BufTy).Contents (Elt Ideal))) a
      (Shape.Idx.first h_S_)).toInt = ((![t.val, 0, 0] : Fin 3 → Nat) a : Int) := by
  have ht := t.isLt
  subst hc
  match a with
  | ⟨0, _⟩ =>
    show (BitVec.ofNat 32 t.val).toInt = (t.val : Int)
    exact small_word _ (by omega)
  | ⟨1, _⟩ => rfl
  | ⟨2, _⟩ => rfl

theorem row512_at (x : FVec Ideal S1024x8x512 .f32) (b : Fin 8) (d : Fin 512) :
    shapeCast S8x512 (Host.dynamicSlice S1x8x512 x
      (fun k => (((![c, constantI S_ 32 0#32, constantI S_ 32 0#32] : Fin 3 → (⟨S_, .i32⟩ : BufTy).Contents (Elt Ideal))) k
        (Shape.Idx.first h_S_)).toInt) sliceFits_S1024x8x512_S1x8x512) shapeCasts_S1x8x512_S8x512 (ix2 b d)
      = x (ix3 t b d) := by
  have hoff : S1024x8x512.Slices (![t.val, 0, 0] : Fin 3 → Nat) S1x8x512 :=
    ⟨rfl, fun a => by have := t.isLt; match a with
      | ⟨0, _⟩ => show t.val + 1 ≤ 1024; omega
      | ⟨1, _⟩ => show 0 + 8 ≤ 8; omega
      | ⟨2, _⟩ => show 0 + 512 ≤ 512; omega⟩
  refine (congrArg (fun y => shapeCast S8x512 y shapeCasts_S1x8x512_S8x512 (ix2 b d))
    (Host.dynamicSlice_eq_extractStridedSlice S1x8x512 x _ _ sliceFits_S1024x8x512_S1x8x512 hoff (start_eq c t hc))).trans ?_
  pointwise []
  done

theorem row1024_at (x : FVec Ideal S1024x8x1024 .f32) (b : Fin 8) (j : Fin 1024) :
    shapeCast S8x1024 (Host.dynamicSlice S1x8x1024 x
      (fun k => (((![c, constantI S_ 32 0#32, constantI S_ 32 0#32] : Fin 3 → (⟨S_, .i32⟩ : BufTy).Contents (Elt Ideal))) k
        (Shape.Idx.first h_S_)).toInt) sliceFits_S1024x8x1024_S1x8x1024) shapeCasts_S1x8x1024_S8x1024 (ix2 b j)
      = x (ix3 t b j) := by
  have hoff : S1024x8x1024.Slices (![t.val, 0, 0] : Fin 3 → Nat) S1x8x1024 :=
    ⟨rfl, fun a => by have := t.isLt; match a with
      | ⟨0, _⟩ => show t.val + 1 ≤ 1024; omega
      | ⟨1, _⟩ => show 0 + 8 ≤ 8; omega
      | ⟨2, _⟩ => show 0 + 1024 ≤ 1024; omega⟩
  refine (congrArg (fun y => shapeCast S8x1024 y shapeCasts_S1x8x1024_S8x1024 (ix2 b j))
    (Host.dynamicSlice_eq_extractStridedSlice S1x8x1024 x _ _ sliceFits_S1024x8x1024_S1x8x1024 hoff (start_eq c t hc))).trans ?_
  pointwise []
  done

theorem put_at (x : FVec Ideal S1024x8x1024 .f32) (u : FVec Ideal S1x8x1024 .f32) (s : Fin 1024) (b : Fin 8) (j : Fin 1024) :
    Host.dynamicUpdateSlice x u
      (fun k => (((![c, constantI S_ 32 0#32, constantI S_ 32 0#32] : Fin 3 → (⟨S_, .i32⟩ : BufTy).Contents (Elt Ideal))) k
        (Shape.Idx.first h_S_)).toInt) updateFits_S1024x8x1024_S1x8x1024 (ix3 s b j)
      = if s = t then u (ix3 (0 : Fin 1) b j) else x (ix3 s b j) := by
  rw [Host.dynamicUpdateSlice_apply]
  have hle : ∀ a : Fin 3, (![t.val, 0, 0] : Fin 3 → Nat) a + S1x8x1024.size a ≤ S1024x8x1024.size a := fun a => by
    have := t.isLt
    match a with
      | ⟨0, _⟩ => show t.val + 1 ≤ 1024; omega
      | ⟨1, _⟩ => show 0 + 8 ≤ 8; omega
      | ⟨2, _⟩ => show 0 + 1024 ≤ 1024; omega
  have e0 : ∀ a : Fin 3, Host.clampedStart S1024x8x1024 S1x8x1024 rfl
      (fun k => (((![c, constantI S_ 32 0#32, constantI S_ 32 0#32] : Fin 3 → (⟨S_, .i32⟩ : BufTy).Contents (Elt Ideal))) k
        (Shape.Idx.first h_S_)).toInt) a = (![t.val, 0, 0] : Fin 3 → Nat) a := fun a =>
    Host.clampedStart_of_le (s := S1024x8x1024) (t := S1x8x1024) rfl _ a _ (start_eq c t hc a) (hle a)
  by_cases h : s = t
  · subst h
    rw [if_pos rfl, dif_pos]
    · refine congrArg u (funext fun a => Fin.ext ?_)
      match a with
      | ⟨0, _⟩ =>
        show s.val - _ = 0
        have := e0 0
        exact (congrArg (s.val - ·) this).trans (Nat.sub_self _)
      | ⟨1, _⟩ => exact (congrArg (b.val - ·) (e0 1)).trans rfl
      | ⟨2, _⟩ => exact (congrArg (j.val - ·) (e0 2)).trans rfl
    · intro a
      have := e0 a
      rw [this]
      match a with
      | ⟨0, _⟩ => exact ⟨Nat.le_refl _, Nat.lt_succ_self _⟩
      | ⟨1, _⟩ => exact ⟨Nat.zero_le _, by have := b.isLt; show b.val < 0 + 8; omega⟩
      | ⟨2, _⟩ => exact ⟨Nat.zero_le _, by have := j.isLt; show j.val < 0 + 1024; omega⟩
  · rw [if_neg h, dif_neg]
    intro hin
    have h0 := hin 0
    rw [e0 0] at h0
    exact h (Fin.ext (by have h1 : t.val ≤ s.val := h0.1; have h2 : s.val < t.val + 1 := h0.2; omega))
end rows

/-! ## Sums over joined columns -/

theorem sum_1552 (f : Fin 1552 → EReal) :
    ∑ k, f k = (∑ k : Fin 1024, f ⟨k, by omega⟩) + (∑ k : Fin 512, f ⟨1024 + k, by omega⟩)
      + ∑ k : Fin 16, f ⟨1536 + k, by omega⟩ := by
  rw [show (∑ k, f k) = ∑ k : Fin (1024 + 512 + 16), f k from rfl, Fin.sum_univ_add, Fin.sum_univ_add]
  rfl
theorem sum_1536 (f : Fin 1536 → EReal) :
    ∑ k, f k = (∑ k : Fin 1024, f ⟨k, by omega⟩) + (∑ k : Fin 512, f ⟨1024 + k, by omega⟩) := by
  rw [show (∑ k, f k) = ∑ k : Fin (1024 + 512), f k from rfl, Fin.sum_univ_add]
  rfl

end Cert.ReferenceIdeal.Hand
-- ==== Proof.RTrip.lean ====
module

public import proofs.«01_k».proof.Proof.RBase

/-! One trip of the reference, read at an index. -/

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Value
open Cert.Spec Cert.Dft

/-- what the trips read and never write -/
structure Held (A : Args) (V : Valuation τ sig (Elt Ideal)) : Prop where
  bound : ∀ (t : Fin 1024) (b : Fin 8) (d : Fin 512),
    (show FVec Ideal S1024x8x512 .f32 from V (Proc.devRef .tc main_v48_0)) (ix3 t b d) = bound A b t d
  key : ∀ (t : Fin 1024) (b : Fin 8) (d : Fin 512),
    (show FVec Ideal S1024x8x512 .f32 from V (Proc.devRef .tc main_v48_1)) (ix3 t b d) = key A b t d
  qry : ∀ (t : Fin 1024) (b : Fin 8) (j : Fin 1024),
    (show FVec Ideal S1024x8x1024 .f32 from V (Proc.devRef .tc main_v48_2)) (ix3 t b j) = qry A b t j
  items : ∀ (t : Fin 1024) (b : Fin 8) (d : Fin 512),
    (show FVec Ideal S1024x8x512 .f32 from V (Proc.devRef .tc main_v48_3)) (ix3 t b d) = items A b t d
  Wsa : V (Proc.devRef .tc main_v48_4) = A.Wsa
  bsa : V (Proc.devRef .tc main_v48_5) = A.bsa
  Wg1 : V (Proc.devRef .tc main_v48_6) = A.Wg1
  bg1 : V (Proc.devRef .tc main_v48_7) = A.bg1
  Wg2 : V (Proc.devRef .tc main_v48_8) = A.Wg2
  bg2 : V (Proc.devRef .tc main_v48_9) = A.bg2
  Wo : V (Proc.devRef .tc main_v48_10) = A.Wo
  bo : V (Proc.devRef .tc main_v48_11) = A.bo

theorem dot_ret (X : FVec Ideal S8x16x512 .f32) (Y : FVec Ideal S8x512x512 .f32) (b : Fin 8) (n : Fin 16) (e : Fin 512) :
    Host.dotGeneral dot_S8x16x512_S8x512x512_S8x16x512_2_2_1_1_0_0 none X Y (ix3 b n e)
      = ∑ d : Fin 512, X (ix3 b n d) * Y (ix3 b e d) := by
  pointwise []

theorem dot_ctx (X : FVec Ideal S8x16x512 .f32) (E : FVec Ideal S8x16 .f32) (b : Fin 8) (d : Fin 512) :
    Host.dotGeneral dot_S8x16x512_S8x16_S8x512_1_1_2_n_0_0 none X (Host.divf E
        (broadcastInDim S8x16 ![0, 1] bcast_S8x1_S8x16_0_1 (broadcastInDim S8x1 ![0] bcast_S8_S8x1_0
          (Host.reduceAdd E (constant S_ .f32 0x00000000#32) reducesTo_S8x16_S8_d1 h_S_)))) (ix2 b d)
      = ∑ n : Fin 16, X (ix3 b n d) * Ideal.div (E (ix2 b n)) (∑ n' : Fin 16, E (ix2 b n')) := by
  pointwise []

theorem dot_gate (X : FVec Ideal S8x1552 .f32) (W : FVec Ideal S1552x1024 .f32) (b : Fin 8) (j : Fin 1024) :
    Host.dotGeneral dot_S8x1552_S1552x1024_S8x1024_1_0_0_1_n_n none X W (ix2 b j)
      = ∑ k : Fin 1552, X (ix2 b k) * W (ix2 k j) := by
  pointwise []

theorem dot_lin (X : FVec Ideal S8x1536 .f32) (W : FVec Ideal S1536x1024 .f32) (b : Fin 8) (j : Fin 1024) :
    Host.dotGeneral dot_S8x1536_S1536x1024_S8x1024_1_0_0_1_n_n none X W (ix2 b j)
      = ∑ k : Fin 1536, X (ix2 b k) * W (ix2 k j) := by
  pointwise []

theorem norms_at (X : FVec Ideal S8x16x512 .f32) (b : Fin 8) (n : Fin 16) :
    Host.sqrt (Host.reduceAdd (mulf X X) (constant S_ .f32 0x00000000#32) reducesTo_S8x16x512_S8x16_d2 h_S_) (ix2 b n)
      = Ideal.sqrt (∑ d : Fin 512, X (ix3 b n d) * X (ix3 b n d)) := by
  pointwise []

theorem addBias (X : FVec Ideal S8x1024 .f32) (c : FVec Ideal S1024 .f32) (b : Fin 8) (j : Fin 1024) :
    addf X (broadcastInDim S8x1024 ![0, 1] bcast_S1x1024_S8x1024_0_1 (broadcastInDim S1x1024 ![1] bcast_S1024_S1x1024_1 c))
      (ix2 b j) = X (ix2 b j) + c (ix1 j) := by
  pointwise []

theorem one_eq : Ideal.ofBits .f32 0x3F800000#32 = 1 := by
  simp

section joined
variable (x : FVec Ideal S8x1024 .f32) (y : FVec Ideal S8x512 .f32) (z : FVec Ideal S8x16 .f32) (b : Fin 8)
theorem join3_a (k : Fin 1024) :
    concatenate S8x1552 1 [⟨S8x1024, x⟩, ⟨S8x512, y⟩, ⟨S8x16, z⟩] concatenates_S8x1024_S8x512_S8x16_S8x1552_d1
      (ix2 b (⟨k.val, by omega⟩ : Fin 1552)) = x (ix2 b k) := by
  pointwise []
  done
theorem join3_b (k : Fin 512) :
    concatenate S8x1552 1 [⟨S8x1024, x⟩, ⟨S8x512, y⟩, ⟨S8x16, z⟩] concatenates_S8x1024_S8x512_S8x16_S8x1552_d1
      (ix2 b (⟨1024 + k.val, by omega⟩ : Fin 1552)) = y (ix2 b k) := by
  pointwise []
  done
theorem join3_c (k : Fin 16) :
    concatenate S8x1552 1 [⟨S8x1024, x⟩, ⟨S8x512, y⟩, ⟨S8x16, z⟩] concatenates_S8x1024_S8x512_S8x16_S8x1552_d1
      (ix2 b (⟨1536 + k.val, by omega⟩ : Fin 1552)) = z (ix2 b k) := by
  pointwise []
  rw [dif_neg (by omega), dif_neg (by omega)]
  exact congrArg (fun q => z (ix2 b q)) (Fin.ext (by show 1536 + k.val - 1024 - 512 = k.val; omega))
theorem join2_a (k : Fin 1024) :
    concatenate S8x1536 1 [⟨S8x1024, x⟩, ⟨S8x512, y⟩] concatenates_S8x1024_S8x512_S8x1536_d1
      (ix2 b (⟨k.val, by omega⟩ : Fin 1536)) = x (ix2 b k) := by
  pointwise []
  done
theorem join2_b (k : Fin 512) :
    concatenate S8x1536 1 [⟨S8x1024, x⟩, ⟨S8x512, y⟩] concatenates_S8x1024_S8x512_S8x1536_d1
      (ix2 b (⟨1024 + k.val, by omega⟩ : Fin 1536)) = y (ix2 b k) := by
  pointwise []
  done
end joined

theorem soft_at (X : FVec Ideal S8x16 .f32) (b : Fin 8) (n : Fin 16) :
    Host.exp (subf X (broadcastInDim S8x16 ![0, 1] bcast_S8x1_S8x16_0_1 (broadcastInDim S8x1 ![0] bcast_S8_S8x1_0
      (maximumf (broadcastInDim S8 ![] bcast_S_S8 (constant S_ .f32 0xFF800000#32))
        (Host.reduce FloatOps.maximumf X (constant S_ .f32 0xFF800000#32) reducesTo_S8x16_S8_d1 h_S_))))) (ix2 b n)
      = Ideal.exp (X (ix2 b n) - max low (Finset.univ.fold max low (fun k => X (ix2 b k)))) := by
  pointwise [low]
  done

theorem new_at (P : FVec Ideal S8x1024 .f32) (M : FVec Ideal S8x16x512 .f32) (R : FVec Ideal S8x512 .f32)
    (W : FVec Ideal S1024x16 .f32) (c : FVec Ideal S16 .f32) (b : Fin 8) (n : Fin 16) (d : Fin 512) :
    addf (mulf (broadcastInDim S8x16x512 ![] bcast_S_S8x16x512 (constant S_ .f32 0x3F666666#32)) M)
      (mulf (broadcastInDim S8x16x512 ![0, 1, 2] bcast_S8x16x1_S8x16x512_0_1_2 (broadcastInDim S8x16x1 ![0, 1] bcast_S8x16_S8x16x1_0_1
        (Host.divf (broadcastInDim S8x16 ![] bcast_S_S8x16 (constant S_ .f32 0x3F800000#32))
          (addf (broadcastInDim S8x16 ![] bcast_S_S8x16 (constant S_ .f32 0x3F800000#32)) (Host.exp (Host.negf
            (addf (Host.dotGeneral dot_S8x1024_S1024x16_S8x16_1_0_0_1_n_n none
              (mulf (mulf (broadcastInDim S8x1024 ![] bcast_S_S8x1024 (constant S_ .f32 0x3F000000#32)) P)
                (Host.erfc (mulf (Host.negf P) (broadcastInDim S8x1024 ![] bcast_S_S8x1024 (constant S_ .f32 0x3F3504F3#32))))) W)
              (broadcastInDim S8x16 ![0, 1] bcast_S1x16_S8x16_0_1 (broadcastInDim S1x16 ![1] bcast_S16_S1x16_1 c)))))))))
        (broadcastInDim S8x16x512 ![0, 1, 2] bcast_S8x1x512_S8x16x512_0_1_2 (broadcastInDim S8x1x512 ![0, 2] bcast_S8x512_S8x1x512_0_2 R)))
      (ix3 b n d)
      = decay * M (ix3 b n d)
        + Ideal.logistic ((∑ j : Fin 1024, gelu (P (ix2 b j)) * W (ix2 j n)) + c (ix1 n)) * R (ix2 b d) := by
  pointwise [decay, gelu, half, rt, Ideal.logistic, one_eq]
  done

theorem unrow_at (X : FVec Ideal S8x1024 .f32) (b : Fin 8) (j : Fin 1024) :
    broadcastInDim S1x8x1024 ![1, 2] bcast_S8x1024_S1x8x1024_1_2 X (ix3 (0 : Fin 1) b j) = X (ix2 b j) := by
  pointwise []

section trip
variable {A : Args} {V : Valuation τ sig (Elt Ideal)} {H : Mem} (t : Fin 1024)
  (hV : Held A V)
  (hc : V (Proc.devRef .tc main_v48_12) = fun _ => BitVec.ofNat 32 t.val)
  (hm : ∀ (b : Fin 8) (n : Fin 16) (d : Fin 512),
    (show FVec Ideal S8x16x512 .f32 from V (Proc.devRef .tc main_v48_13)) (ix3 b n d) = H b n d)

include hV hc

theorem v79_at (b : Fin 8) (j : Fin 1024) :
    (show FVec Ideal S8x1024 .f32 from res_main_while0b_v79 V) (ix2 b j) = qry A b t j :=
  (row1024_at _ t hc _ b j).trans (hV.qry t b j)

include hm

theorem v90_at (b : Fin 8) (n : Fin 16) (e : Fin 512) :
    (show FVec Ideal S8x16x512 .f32 from res_main_while0b_v90 V) (ix3 b n e) = ret A b t (H b) n e := by
  refine (dot_ret _ _ b n e).trans ?_
  unfold ret
  refine Finset.sum_congr rfl fun d _ => ?_
  refine congrArg₂ (· * ·) (hm b n d) ?_
  exact (tab8_at _ b e d).trans ((row512_at _ t hc _ b (cyc d e)).trans (hV.key t b (cyc d e)))

theorem v95_at (b : Fin 8) (n : Fin 16) :
    (show FVec Ideal S8x16 .f32 from res_main_while0b_v95 V) (ix2 b n) = score A b t (H b) n + A.bsa (ix1 0) := by
  have h : ∀ e, (res_main_while0b_v90 V : FVec Ideal S8x16x512 .f32) (ix3 b n e) = ret A b t (H b) n e :=
    v90_at t hV hc hm b n
  unfold res_main_while0b_v95
  rw [hV.Wsa, hV.bsa]
  pointwise [score]
  simp only [h]

theorem v102_at (hA : Real A) (b : Fin 8) (n : Fin 16) :
    (show FVec Ideal S8x16 .f32 from res_main_while0b_v102 V) (ix2 b n) = ex A b t (H b) n := by
  have h : ∀ n, (res_main_while0b_v95 V : FVec Ideal S8x16 .f32) (ix2 b n) = score A b t (H b) n + A.bsa (ix1 0) :=
    v95_at t hV hc hm b
  unfold res_main_while0b_v102
  refine (soft_at _ b n).trans ?_
  rw [low_eq, max_eq_right bot_le, ← low_eq]
  refine congrArg Ideal.exp ?_
  rw [← shift (score A b t (H b)) (A.bsa (ix1 0)) (hA.bsa _) n, h n]
  refine congrArg (fun z => score A b t (H b) n + A.bsa (ix1 0) - z) ?_
  exact congrArg (fun f => Finset.univ.fold max low f) (funext fun k => h k)

theorem v115_at (b : Fin 8) (j : Fin 1024) :
    (show FVec Ideal S8x1024 .f32 from res_main_while0b_v115 V) (ix2 b j) = gpre A b t (H b) j := by
  have hq := v79_at t hV hc b
  unfold res_main_while0b_v115
  refine (addBias _ _ b j).trans ?_
  refine congrArg₂ (· + ·) ((dot_gate _ _ b j).trans ((sum_1552 _).trans ?_)) (congrFun hV.bg1 (ix1 j))
  refine congrArg₂ (· + ·) (congrArg₂ (· + ·) ?_ ?_) ?_
  · refine Finset.sum_congr rfl fun k _ => congrArg₂ (· * ·) ((join3_a _ _ _ b k).trans (hq k)) (congrFun hV.Wg1 _)
  · refine Finset.sum_congr rfl fun k _ => congrArg₂ (· * ·)
      ((join3_b _ _ _ b k).trans ((row512_at _ t hc _ b k).trans (hV.items t b k))) (congrFun hV.Wg1 _)
  · refine Finset.sum_congr rfl fun k _ => congrArg₂ (· * ·)
      ((join3_c _ _ _ b k).trans ((norms_at _ b k).trans ?_)) (congrFun hV.Wg1 _)
    exact congrArg Ideal.sqrt (Finset.sum_congr rfl fun d _ => congrArg₂ (· * ·) (hm b k d) (hm b k d))

theorem step12 : step_main_v48_12 V = fun _ => BitVec.ofNat 32 (t.val + 1) := by
  unfold step_main_v48_12
  rw [hc]
  funext i
  show BitVec.ofNat 32 t.val + 1#32 = BitVec.ofNat 32 (t.val + 1)
  exact (BitVec.ofNat_add (n := 32) t.val 1).symm

theorem step13 (b : Fin 8) (n : Fin 16) (d : Fin 512) :
    (show FVec Ideal S8x16x512 .f32 from step_main_v48_13 V) (ix3 b n d) = next A b t (H b) n d := by
  have hb := (row512_at _ t hc (V (Proc.devRef .tc main_v48_0)) b d).trans (hV.bound t b d)
  unfold step_main_v48_13
  refine (new_at _ _ _ _ _ b n d).trans ?_
  unfold next gate
  refine congrArg₂ (· + ·) (congrArg (decay * ·) (hm b n d)) (congrArg₂ (· * ·) (congrArg Ideal.logistic ?_) hb)
  refine congrArg₂ (· + ·) (Finset.sum_congr rfl fun j _ => congrArg₂ (· * ·) ?_ (congrFun hV.Wg2 _)) (congrFun hV.bg2 (ix1 n))
  exact congrArg gelu (v115_at t hV hc hm b j)

theorem step14 (hA : Real A) (s : Fin 1024) (b : Fin 8) (j : Fin 1024) :
    (show FVec Ideal S1024x8x1024 .f32 from step_main_v48_14 V) (ix3 s b j)
      = if s = t then lin A b t (H b) j
        else (show FVec Ideal S1024x8x1024 .f32 from V (Proc.devRef .tc main_v48_14)) (ix3 s b j) := by
  have hq := v79_at t hV hc b
  have hr := v90_at t hV hc hm b
  have he := v102_at t hV hc hm hA b
  unfold step_main_v48_14
  refine (put_at _ t hc _ _ s b j).trans ?_
  refine congrArg (fun z => if s = t then z else _) ?_
  refine (unrow_at _ b j).trans ((addBias _ _ b j).trans ?_)
  refine congrArg₂ (· + ·) ((dot_lin _ _ b j).trans ((sum_1536 _).trans ?_)) (congrFun hV.bo (ix1 j))
  refine congrArg₂ (· + ·) ?_ ?_
  · refine Finset.sum_congr rfl fun k _ => congrArg₂ (· * ·) ((join2_a _ _ b k).trans (hq k)) (congrFun hV.Wo _)
  · refine Finset.sum_congr rfl fun k _ => congrArg₂ (· * ·)
      ((join2_b _ _ b k).trans ((dot_ctx _ _ b k).trans ?_)) (congrFun hV.Wo _)
    unfold ctx
    refine Finset.sum_congr rfl fun n _ => congrArg₂ (· * ·) (hr n k) (congrArg₂ Ideal.div (he n) ?_)
    exact Finset.sum_congr rfl fun n' _ => he n'

end trip

end Cert.ReferenceIdeal.Hand
-- ==== Proof.RValue.lean ====
module

public import proofs.«01_k».proof.Proof.RTrip

/-! What the reference computes: the values at the loop's entry, the 1024 trips, the operations after it. -/

@[expose] public section

set_option maxRecDepth 16384

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Value
open Cert.Spec Cert.Dft

variable (m : (ℓ : Loc nD τ sig) → Buf (Elt Ideal) ℓ) (c : Dev nD)

/-- the reference's arguments -/
def args : Args where
  hs := m ((c.tc : Thread nD τ).loc main_arg0)
  pos := m ((c.tc : Thread nD τ).loc main_arg1)
  Wi := m ((c.tc : Thread nD τ).loc main_arg2)
  bi := m ((c.tc : Thread nD τ).loc main_arg3)
  Wq := m ((c.tc : Thread nD τ).loc main_arg4)
  bq := m ((c.tc : Thread nD τ).loc main_arg5)
  Wk1 := m ((c.tc : Thread nD τ).loc main_arg6)
  bk1 := m ((c.tc : Thread nD τ).loc main_arg7)
  Wk2 := m ((c.tc : Thread nD τ).loc main_arg8)
  bk2 := m ((c.tc : Thread nD τ).loc main_arg9)
  Wsa := m ((c.tc : Thread nD τ).loc main_arg10)
  bsa := m ((c.tc : Thread nD τ).loc main_arg11)
  Wg1 := m ((c.tc : Thread nD τ).loc main_arg12)
  bg1 := m ((c.tc : Thread nD τ).loc main_arg13)
  Wg2 := m ((c.tc : Thread nD τ).loc main_arg14)
  bg2 := m ((c.tc : Thread nD τ).loc main_arg15)
  Wo := m ((c.tc : Thread nD τ).loc main_arg16)
  bo := m ((c.tc : Thread nD τ).loc main_arg17)
  lg := m ((c.tc : Thread nD τ).loc main_arg18)
  lb := m ((c.tc : Thread nD τ).loc main_arg19)

/-! ## The loop's entry -/

theorem bind_at (G : FVec Ideal S1024x512x512 .f32) (I : FVec Ideal S8x1024x512 .f32) (t : Fin 1024) (b : Fin 8) (d : Fin 512) :
    transpose S1024x8x512 [1, 0, 2] (transpose S8x1024x512 [2, 0, 1]
        (Host.dotGeneral dot_S1024x512x512_S8x1024x512_S1024x512x8_1_2_2_0_0_1 none G I) transposes_S1024x512x8_S8x1024x512_2_0_1)
      transposes_S8x1024x512_S1024x8x512_1_0_2 (ix3 t b d) = ∑ e : Fin 512, G (ix3 t e d) * I (ix3 b t e) := by
  pointwise []

set_option maxHeartbeats 4000000 in
theorem entry_qry (t : Fin 1024) (b : Fin 8) (j : Fin 1024) :
    (show FVec Ideal S1024x8x1024 .f32 from entryContents preI m c (Proc.devRef .tc main_v48_2)) (ix3 t b j)
      = qry (args m c) b t j := by
  simp only [entryContents, afterL_cons, afterL_nil]
  after_reads_simp
  simp only [id_eq]
  pointwise []
  rfl

set_option maxHeartbeats 4000000 in
theorem entry_items (t : Fin 1024) (b : Fin 8) (d : Fin 512) :
    (show FVec Ideal S1024x8x512 .f32 from entryContents preI m c (Proc.devRef .tc main_v48_3)) (ix3 t b d)
      = items (args m c) b t d := by
  simp only [entryContents, afterL_cons, afterL_nil]
  after_reads_simp
  simp only [id_eq]
  pointwise []
  rfl

set_option maxHeartbeats 4000000 in
theorem entry_key (t : Fin 1024) (b : Fin 8) (d : Fin 512) :
    (show FVec Ideal S1024x8x512 .f32 from entryContents preI m c (Proc.devRef .tc main_v48_1)) (ix3 t b d)
      = key (args m c) b t d := by
  simp only [entryContents, afterL_cons, afterL_nil]
  after_reads_simp
  simp only [id_eq]
  pointwise []
  rfl

set_option maxHeartbeats 4000000 in
theorem entry_bound (t : Fin 1024) (b : Fin 8) (d : Fin 512) :
    (show FVec Ideal S1024x8x512 .f32 from entryContents preI m c (Proc.devRef .tc main_v48_0)) (ix3 t b d)
      = bound (args m c) b t d := by
  simp only [entryContents, afterL_cons, afterL_nil]
  after_reads_simp
  refine (bind_at _ _ t b d).trans ?_
  unfold bound
  refine Finset.sum_congr rfl fun e _ => ?_
  rw [mul_comm]
  refine congrArg₂ (· * ·) ?_ (tab1024_at _ t e d)
  pointwise []
  rfl

set_option maxHeartbeats 4000000 in
theorem entry_mem (b : Fin 8) (n : Fin 16) (d : Fin 512) :
    (show FVec Ideal S8x16x512 .f32 from entryContents preI m c (Proc.devRef .tc main_v48_13)) (ix3 b n d) = 0 := by
  simp only [entryContents, afterL_cons, afterL_nil]
  after_reads_simp
  simp only [id_eq]
  pointwise []
  done

theorem entry_Wsa : entryContents preI m c (Proc.devRef .tc main_v48_4) = (args m c).Wsa := by
  simp only [entryContents, afterL_cons, afterL_nil]
  after_reads_simp
  rfl

theorem entry_bsa : entryContents preI m c (Proc.devRef .tc main_v48_5) = (args m c).bsa := by
  simp only [entryContents, afterL_cons, afterL_nil]
  after_reads_simp
  rfl

theorem entry_Wg1 : entryContents preI m c (Proc.devRef .tc main_v48_6) = (args m c).Wg1 := by
  simp only [entryContents, afterL_cons, afterL_nil]
  after_reads_simp
  rfl

theorem entry_bg1 : entryContents preI m c (Proc.devRef .tc main_v48_7) = (args m c).bg1 := by
  simp only [entryContents, afterL_cons, afterL_nil]
  after_reads_simp
  rfl

theorem entry_Wg2 : entryContents preI m c (Proc.devRef .tc main_v48_8) = (args m c).Wg2 := by
  simp only [entryContents, afterL_cons, afterL_nil]
  after_reads_simp
  rfl

theorem entry_bg2 : entryContents preI m c (Proc.devRef .tc main_v48_9) = (args m c).bg2 := by
  simp only [entryContents, afterL_cons, afterL_nil]
  after_reads_simp
  rfl

theorem entry_Wo : entryContents preI m c (Proc.devRef .tc main_v48_10) = (args m c).Wo := by
  simp only [entryContents, afterL_cons, afterL_nil]
  after_reads_simp
  rfl

theorem entry_bo : entryContents preI m c (Proc.devRef .tc main_v48_11) = (args m c).bo := by
  simp only [entryContents, afterL_cons, afterL_nil]
  after_reads_simp
  rfl

theorem held_entry : Held (args m c) (entryContents preI m c) where
  bound := entry_bound m c
  key := entry_key m c
  qry := entry_qry m c
  items := entry_items m c
  Wsa := entry_Wsa m c
  bsa := entry_bsa m c
  Wg1 := entry_Wg1 m c
  bg1 := entry_bg1 m c
  Wg2 := entry_Wg2 m c
  bg2 := entry_bg2 m c
  Wo := entry_Wo m c
  bo := entry_bo m c

theorem held_step {A : Args} {V : Valuation τ sig (Elt Ideal)} (h : Held A V) : Held A (STEP V) where
  bound := by rw [STEP_main_v48_0]; exact h.bound
  key := by rw [STEP_main_v48_1]; exact h.key
  qry := by rw [STEP_main_v48_2]; exact h.qry
  items := by rw [STEP_main_v48_3]; exact h.items
  Wsa := (STEP_main_v48_4 V).trans h.Wsa
  bsa := (STEP_main_v48_5 V).trans h.bsa
  Wg1 := (STEP_main_v48_6 V).trans h.Wg1
  bg1 := (STEP_main_v48_7 V).trans h.bg1
  Wg2 := (STEP_main_v48_8 V).trans h.Wg2
  bg2 := (STEP_main_v48_9 V).trans h.bg2
  Wo := (STEP_main_v48_10 V).trans h.Wo
  bo := (STEP_main_v48_11 V).trans h.bo

/-! ## The trips -/

/-- what the buffers hold after `k` trips -/
structure After (A : Args) (k : ℕ) (V : Valuation τ sig (Elt Ideal)) : Prop where
  held : Held A V
  ctr : V (Proc.devRef .tc main_v48_12) = fun _ => BitVec.ofNat 32 k
  mem : ∀ (b : Fin 8) (n : Fin 16) (d : Fin 512),
    (show FVec Ideal S8x16x512 .f32 from V (Proc.devRef .tc main_v48_13)) (ix3 b n d) = state A k b n d
  rows : ∀ (s : Fin 1024) (b : Fin 8) (j : Fin 1024), s.val < k →
    (show FVec Ideal S1024x8x1024 .f32 from V (Proc.devRef .tc main_v48_14)) (ix3 s b j) = lin A b s (state A s.val b) j

theorem after_entry : After (args m c) 0 (entryContents preI m c) where
  held := held_entry m c
  ctr := ctr_entry m c
  mem := entry_mem m c
  rows := fun s b j h => absurd h (Nat.not_lt_zero _)

theorem after_step {A : Args} (hA : Real A) {k : ℕ} (hk : k < 1024) {V : Valuation τ sig (Elt Ideal)} (h : After A k V) :
    After A (k + 1) (STEP V) where
  held := held_step h.held
  ctr := (STEP_main_v48_12 V).trans (step12 (⟨k, hk⟩ : Fin 1024) h.held h.ctr h.mem)
  mem := by
    rw [STEP_main_v48_13, state_succ A k hk]
    exact step13 (⟨k, hk⟩ : Fin 1024) h.held h.ctr h.mem
  rows := by
    intro s b j hs
    rw [STEP_main_v48_14]
    refine (step14 (⟨k, hk⟩ : Fin 1024) h.held h.ctr h.mem hA s b j).trans ?_
    by_cases e : s = ⟨k, hk⟩
    · rw [if_pos e, e]
    · rw [if_neg e]
      have : s.val ≠ k := fun q => e (Fin.ext q)
      exact h.rows s b j (by omega)

theorem after_iter (hA : Real (args m c)) : ∀ k, k ≤ 1024 → After (args m c) k (STEP^[k] (entryContents preI m c))
  | 0, _ => after_entry m c
  | k + 1, hk => by
    rw [Function.iterate_succ_apply']
    exact after_step hA hk (after_iter hA k (Nat.le_of_succ_le hk))

/-! ## The results -/

set_option maxHeartbeats 4000000 in
theorem out_at {A : Args} (V : Valuation τ sig (Elt Ideal)) (h0 : V (Proc.devRef .tc main_arg0) = A.hs)
    (h18 : V (Proc.devRef .tc main_arg18) = A.lg) (h19 : V (Proc.devRef .tc main_arg19) = A.lb) (t : Fin 1024) (b : Fin 8) (h : Row)
    (hl : ∀ j : Fin 1024, (V (Proc.devRef .tc main_v48_14) : FVec Ideal S1024x8x1024 .f32) (ix3 t b j) = lin A b t h j)
    (j : Fin 1024) :
    (show FVec Ideal S8x1024x1024 .f32 from out_main_v76 V) (ix3 b t j) = out A b t h j := by
  unfold out_main_v76
  rw [h0, h18, h19]
  pointwise [out, xc, xr, var, eps, cnt]
  simp only [hl]
  done

theorem first_of (hA : Real (args m c)) (k : ℕ) (hk : k = 1024) (b : Fin 8) (t : Fin 1024) (j : Fin 1024) :
    (show FVec Ideal S8x1024x1024 .f32 from out_main_v76 (STEP^[k] (entryContents preI m c))) (ix3 b t j)
      = out (args m c) b t (state (args m c) t.val b) j :=
  out_at _ (iter_main_arg0 m c k) (iter_main_arg18 m c k) (iter_main_arg19 m c k) t b _
    (fun j => (after_iter m c hA k hk.le).rows t b j (lt_of_lt_of_eq t.isLt hk.symm)) j

theorem first_at (hA : Real (args m c)) (b : Fin 8) (t : Fin 1024) (j : Fin 1024) :
    (show FVec Ideal S8x1024x1024 .f32 from out_main_v76 (STEP^[1024] (entryContents preI m c))) (ix3 b t j)
      = out (args m c) b t (state (args m c) t.val b) j := first_of m c hA 1024 rfl b t j

theorem second_at (hA : Real (args m c)) (b : Fin 8) (n : Fin 16) (d : Fin 512) :
    (show FVec Ideal S8x16x512 .f32 from (STEP^[1024] (entryContents preI m c)) (Proc.devRef .tc main_v48_13)) (ix3 b n d)
      = state (args m c) 1024 b n d :=
  (after_iter m c hA 1024 le_rfl).mem b n d

end Cert.ReferenceIdeal.Hand
-- ==== Proof.RPre.lean ====
module

public import proofs.«01_k».proof.Defs
public import proofs.«01_k».proof.Proof.KHost
public import Idealize.ShloMosaic.Lib.ReduceAll
public import Idealize.ShloMosaic.Lib.Affine

/-! From the precondition: every argument is real. -/

@[expose] public section

set_option maxRecDepth 16384

noncomputable section

namespace Cert.Real

open Idealize.ShloMosaic Idealize.ShloMosaic.TcCoe
open Cert.Spec

theorem abs_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem real_of {s : Shape} {axes : List (Fin s.rank)} (x : FVec Ideal s .f32)
    (hb : Cert.Pre_finite.S_.BroadcastsInDim s (![] : Fin 0 → Fin s.rank)) (h : s.ReducesTo axes Cert.Pre_finite.S_)
    (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) h hu j = 1#1) (i : s.Idx) : IsR (x i) := by
  haveI : Subsingleton Cert.Pre_finite.S_.Idx := ⟨fun a b => funext fun k => k.elim0⟩
  exact abs_lt (Host.reduce_andi_all _ _ h hu j e i)

theorem andi_at {s : Shape} (x y : IVec s 1) (j : s.Idx) : andi x y j = 1#1 ↔ x j = 1#1 ∧ y j = 1#1 :=
  IntOp.andi_eq_one

theorem facts : Cert.Pre_finite.Facts :=
  ⟨by decide, by decide, by decide, by decide, by decide, by decide, by decide, by decide, by decide, by decide, by decide,
    by decide, by decide⟩

/-- Under the precondition the arguments are real. -/
theorem real_args [Cert.Pre_finite.Facts] (m : (ℓ : Loc Cert.KernelIdeal.nD Cert.KernelIdeal.τ Cert.KernelIdeal.sig) → Buf (Elt Ideal) ℓ)
    (hpre : Cert.Pre_KernelIdeal_finite m) (c : Dev Cert.KernelIdeal.nD) : Spec.Real (Cert.KernelIdeal.Hand.args m c) := by
  have e := congrFun (hpre c) (fun k => k.elim0 : Cert.Pre_finite.S_.Idx)
  simp only [Cert.Pre_finite.fn, Cert.Pre_finite.fn_part1, Cert.Pre_finite.fn_part2, Cert.Pre_finite.fn_part3, andi_at] at e
  obtain ⟨⟨⟨⟨⟨⟨⟨⟨⟨⟨⟨-, e0⟩, e1⟩, e2⟩, e3⟩, e4⟩, e5⟩, e6⟩, e7⟩, e8⟩, e9⟩, e10⟩ := e
  exact ⟨real_of _ _ _ _ _ e0,
    real_of _ _ _ _ _ e1,
    real_of _ _ _ _ _ e2,
    real_of _ _ _ _ _ e3,
    real_of _ _ _ _ _ e4,
    real_of _ _ _ _ _ e5,
    real_of _ _ _ _ _ e6,
    real_of _ _ _ _ _ e7,
    real_of _ _ _ _ _ e8,
    real_of _ _ _ _ _ e9,
    real_of _ _ _ _ _ e10⟩

end Cert.Real
-- ==== Proof.Agree.lean ====
module

public import proofs.«01_k».proof.Proof.KFinal
public import proofs.«01_k».proof.Proof.RValue
public import proofs.«01_k».proof.Proof.RPre

/-! The kernel's two results are the reference's. -/

@[expose] public section

set_option maxRecDepth 16384

noncomputable section

namespace Cert.Agree

open Idealize.ShloMosaic Idealize.ShloMosaic.TcCoe Idealize.SL.Sem

theorem idx3 {a b c : ℕ} (i : (⟨3, ![a, b, c]⟩ : Shape).Idx) : i = ix3 (i 0) (i 1) (i 2) := by
  funext k
  match k with
  | 0 => rfl
  | 1 => rfl
  | 2 => rfl

theorem ext3 {a b c : ℕ} {x y : (⟨3, ![a, b, c]⟩ : Shape).Idx → EReal} (h : ∀ i j k, x (ix3 i j k) = y (ix3 i j k)) : x = y :=
  funext fun i => by rw [idx3 i]; exact h _ _ _

open Cert.KernelIdeal.Hand Cert.KernelIdeal.Gen in
theorem agree [Cert.Pre_finite.Facts] : Cert.algebraic_KernelIdeal_ReferenceIdeal_pre_finite := by
  intro m g m' g' hpre hsame
  have hA := Cert.Real.real_args m hpre
  have hargs : ∀ c, Cert.ReferenceIdeal.Hand.args m' c = Cert.KernelIdeal.Hand.args m c := by
    intro c
    obtain ⟨h0, h1, h2, h3, h4, h5, h6, h7, h8, h9, h10, h11, h12, h13, h14, h15, h16, h17, h18, h19⟩ := hsame c
    unfold Cert.ReferenceIdeal.Hand.args Cert.KernelIdeal.Hand.args
    rw [h0, h1, h2, h3, h4, h5, h6, h7, h8, h9, h10, h11, h12, h13, h14, h15, h16, h17, h18, h19]
  have hA' : ∀ c, Spec.Real (Cert.ReferenceIdeal.Hand.args m' c) := fun c => by rw [hargs c]; exact hA c
  refine ⟨fun c => V5 m (outs m) c Cert.KernelIdeal.main_v67, fun c => V5 m (outs m) c Cert.KernelIdeal.main_v66_1, ?_, ?_⟩
  · refine θ_run_mono (run_main m g) ?_
    rintro r ⟨h, hz⟩ c
    exact ⟨h c Cert.KernelIdeal.main_v67 (mem_uc Cert.KernelIdeal.main_v67 (by decide)),
      h c Cert.KernelIdeal.main_v66_1 (mem_uc Cert.KernelIdeal.main_v66_1 (by decide)),
      (h c Cert.KernelIdeal.main_arg0 (mem_uc Cert.KernelIdeal.main_arg0 (by decide))).trans (V5_main_arg0 m (outs m) c),
      (h c Cert.KernelIdeal.main_arg1 (mem_uc Cert.KernelIdeal.main_arg1 (by decide))).trans (V5_main_arg1 m (outs m) c),
      (h c Cert.KernelIdeal.main_arg2 (mem_uc Cert.KernelIdeal.main_arg2 (by decide))).trans (V5_main_arg2 m (outs m) c),
      (h c Cert.KernelIdeal.main_arg3 (mem_uc Cert.KernelIdeal.main_arg3 (by decide))).trans (V5_main_arg3 m (outs m) c),
      (h c Cert.KernelIdeal.main_arg4 (mem_uc Cert.KernelIdeal.main_arg4 (by decide))).trans (V5_main_arg4 m (outs m) c),
      (h c Cert.KernelIdeal.main_arg5 (mem_uc Cert.KernelIdeal.main_arg5 (by decide))).trans (V5_main_arg5 m (outs m) c),
      (h c Cert.KernelIdeal.main_arg6 (mem_uc Cert.KernelIdeal.main_arg6 (by decide))).trans (V5_main_arg6 m (outs m) c),
      (h c Cert.KernelIdeal.main_arg7 (mem_uc Cert.KernelIdeal.main_arg7 (by decide))).trans (V5_main_arg7 m (outs m) c),
      (h c Cert.KernelIdeal.main_arg8 (mem_uc Cert.KernelIdeal.main_arg8 (by decide))).trans (V5_main_arg8 m (outs m) c),
      (h c Cert.KernelIdeal.main_arg9 (mem_uc Cert.KernelIdeal.main_arg9 (by decide))).trans (V5_main_arg9 m (outs m) c),
      (h c Cert.KernelIdeal.main_arg10 (mem_uc Cert.KernelIdeal.main_arg10 (by decide))).trans (V5_main_arg10 m (outs m) c),
      (h c Cert.KernelIdeal.main_arg11 (mem_uc Cert.KernelIdeal.main_arg11 (by decide))).trans (V5_main_arg11 m (outs m) c),
      (h c Cert.KernelIdeal.main_arg12 (mem_uc Cert.KernelIdeal.main_arg12 (by decide))).trans (V5_main_arg12 m (outs m) c),
      (h c Cert.KernelIdeal.main_arg13 (mem_uc Cert.KernelIdeal.main_arg13 (by decide))).trans (V5_main_arg13 m (outs m) c),
      (h c Cert.KernelIdeal.main_arg14 (mem_uc Cert.KernelIdeal.main_arg14 (by decide))).trans (V5_main_arg14 m (outs m) c),
      (h c Cert.KernelIdeal.main_arg15 (mem_uc Cert.KernelIdeal.main_arg15 (by decide))).trans (V5_main_arg15 m (outs m) c),
      (h c Cert.KernelIdeal.main_arg16 (mem_uc Cert.KernelIdeal.main_arg16 (by decide))).trans (V5_main_arg16 m (outs m) c),
      (h c Cert.KernelIdeal.main_arg17 (mem_uc Cert.KernelIdeal.main_arg17 (by decide))).trans (V5_main_arg17 m (outs m) c),
      (h c Cert.KernelIdeal.main_arg18 (mem_uc Cert.KernelIdeal.main_arg18 (by decide))).trans (V5_main_arg18 m (outs m) c),
      (h c Cert.KernelIdeal.main_arg19 (mem_uc Cert.KernelIdeal.main_arg19 (by decide))).trans (V5_main_arg19 m (outs m) c)⟩
  · refine θ_run_mono (Cert.ReferenceIdeal.Value.run (F := Ideal) m' g') ?_
    intro r h c
    refine ⟨(h c).1.trans ?_, (h c).2.1.trans ?_, (h c).2.2⟩
    · exact ext3 (fun b t j => (Cert.ReferenceIdeal.Hand.first_at m' c (hA' c) b t j).trans
        ((congrArg (fun A => Spec.out A b t (Spec.state A t.val b) j) (hargs c)).trans (final0 m c (hA c) b t j).symm))
    · exact ext3 (fun b n d => (Cert.ReferenceIdeal.Hand.second_at m' c (hA' c) b n d).trans
        ((congrArg (fun A => Spec.state A 1024 b n d) (hargs c)).trans (congrFun (final1 m c (hA c)) (ix3 b n d)).symm))

end Cert.Agree
-- ==== Proof.lean ====
/- The kernel's runs, its idealization's and the reference's: each ends, with its arguments as they were and every
   counter at zero, and on finite arguments the idealization's two results are the reference's. -/
module

public import proofs.«01_k».proof.Defs
public import proofs.«01_k».proof.Proof.KRun
public import proofs.«01_k».proof.Proof.IRun
public import proofs.«01_k».proof.Proof.Agree
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m g _ => Cert.Kernel.Hand.frame_main m g

theorem frame_ideal : Cert.quiescent_KernelIdeal := fun m g _ => Cert.KernelIdeal.Hand.frame_main m g

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem claim : Cert.Claim :=
  haveI := Cert.Real.facts
  ⟨Cert.Kernel.Gen.facts, Cert.KernelIdeal.Gen.facts, Cert.ReferenceIdeal.Gen.facts, Cert.Real.facts,
    frame_kernel, frame_ideal, fun m g _ => Cert.KernelIdeal.Hand.frame_main m g, frame_reference,
    fun m g _ => (θ_run Cert.ReferenceIdeal.defs _ _).mono (fun r h => ⟨fun c => (h c).2.2, sem_eq_zero_of_no_sems (by decide) r.2⟩)
      (Cert.ReferenceIdeal.Value.run (F := Ideal) m g), trivial, Cert.Agree.agree⟩

end Cert.Proof

end
